-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S8x16 : Shape := ⟨2, ![8, 16]⟩
abbrev S8 : Shape := ⟨1, ![8]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S8x16 .f32) (main_arg2 : FVec F S8x16 .f32) (main_arg3 : FVec F S8 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 8#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S8x16 : Shape := ⟨2, ![8, 16]⟩
abbrev S8 : Shape := ⟨1, ![8]⟩
abbrev S16x8 : Shape := ⟨2, ![16, 8]⟩
abbrev S1x8 : Shape := ⟨2, ![1, 8]⟩
abbrev S8x8 : Shape := ⟨2, ![8, 8]⟩
abbrev S64 : Shape := ⟨1, ![64]⟩
abbrev S200x16384 : Shape := ⟨2, ![200, 16384]⟩
abbrev S200x8x16384 : Shape := ⟨3, ![200, 8, 16384]⟩
abbrev S8x512 : Shape := ⟨2, ![8, 512]⟩
abbrev S8x8x512 : Shape := ⟨3, ![8, 8, 512]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S16384x200x8 : Shape := ⟨3, ![16384, 200, 8]⟩

abbrev nBuf : Table → Nat
  | .hbm => 12
  | .local .tc .vmem => 4
  | .local .scVector .vmem => 5
  | _ => 0

abbrev bufTy : (tb : Table) → Fin (nBuf tb) → BufTy
  | .hbm, ⟨0, _⟩ => ⟨S16384x200, .i32⟩
  | .hbm, ⟨1, _⟩ => ⟨S8x16, .f32⟩
  | .hbm, ⟨2, _⟩ => ⟨S8x16, .f32⟩
  | .hbm, ⟨3, _⟩ => ⟨S8, .f32⟩
  | .hbm, ⟨4, _⟩ => ⟨S16x8, .f32⟩
  | .hbm, ⟨5, _⟩ => ⟨S1x8, .f32⟩
  | .hbm, ⟨6, _⟩ => ⟨S8x8, .f32⟩
  | .hbm, ⟨7, _⟩ => ⟨S8x8, .f32⟩
  | .hbm, ⟨8, _⟩ => ⟨S64, .f32⟩
  | .hbm, ⟨9, _⟩ => ⟨S200x16384, .i32⟩
  | .hbm, ⟨10, _⟩ => ⟨S200x8x16384, .f32⟩
  | .hbm, ⟨11, _⟩ => ⟨S16384x200x8, .f32⟩
  | .local .tc .vmem, ⟨0, _⟩ => ⟨S8x16, .f32⟩
  | .local .tc .vmem, ⟨1, _⟩ => ⟨S16x8, .f32⟩
  | .local .tc .vmem, ⟨2, _⟩ => ⟨S1x8, .f32⟩
  | .local .tc .vmem, ⟨3, _⟩ => ⟨S8x8, .f32⟩
  | .local .scVector .vmem, ⟨0, _⟩ => ⟨S64, .f32⟩
  | .local .scVector .vmem, ⟨1, _⟩ => ⟨S8x512, .i32⟩
  | .local .scVector .vmem, ⟨2, _⟩ => ⟨S8x512, .i32⟩
  | .local .scVector .vmem, ⟨3, _⟩ => ⟨S8x8x512, .f32⟩
  | .local .scVector .vmem, ⟨4, _⟩ => ⟨S8x8x512, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v5_scv : Ref sig .scVector := ⟨.hbm, 9, rfl⟩
abbrev main_v4_scv : Ref sig .scVector := ⟨.hbm, 8, rfl⟩
abbrev main_v6_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 2 → Nat :=
  let c24_i32 : BitVec 32 := 24#32
  let v3 : BitVec 32 := Scalar.minsi c0_i32 c24_i32
  let c8_i32 : BitVec 32 := 8#32
  let v4 : BitVec 32 := Scalar.muli v3 c8_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v4.toNat, v2.toNat]
def k1_off2 (i : grid1.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_4 : BitVec 32 := 0#32
  let c256_i32 : BitVec 32 := 256#32
  let v13 : BitVec 32 := Scalar.addi c0_i32_4 c256_i32
  let c1_i32_5 : BitVec 32 := 1#32
  ⟨c0_i32_4, v13, c1_i32_5⟩
def k1_off3 (k1_t1 : Fin k1_t1_loop.trips) : Fin 2 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v85 : Index := Scalar.indexCast v73
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v86 : Index := Scalar.indexCast v84
  ![v85.toNat, v86.toNat]

def k1_chk1 (v89 : IVec S16 32) : Prop :=
  (∀ a x, ((![v89] : Fin 1 → IVec S16 32) a x).toNat < S64.size a)
theorem k1_idx1_inb : ∀ (v89 : IVec S16 32) (k1_hw1 : k1_chk1 v89), ∀ a x, ((![v89] : Fin 1 → IVec S16 32) a x).toNat < S64.size a := fun v89 k1_hw1 => k1_hw1
def k1_off4 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v91 : Index := Scalar.indexCast v73
  let c0_i32_78 : BitVec 32 := 0#32
  let v92 : Index := Scalar.indexCast c0_i32_78
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v93 : Index := Scalar.indexCast v84
  ![v91.toNat, 0, v93.toNat]

def k1_chk2 (v96 : IVec S16 32) : Prop :=
  (∀ a x, ((![v96] : Fin 1 → IVec S16 32) a x).toNat < S64.size a)
theorem k1_idx2_inb : ∀ (v96 : IVec S16 32) (k1_hw2 : k1_chk2 v96), ∀ a x, ((![v96] : Fin 1 → IVec S16 32) a x).toNat < S64.size a := fun v96 k1_hw2 => k1_hw2
def k1_off5 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v98 : Index := Scalar.indexCast v73
  let c1_i32_80 : BitVec 32 := 1#32
  let v99 : Index := Scalar.indexCast c1_i32_80
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v100 : Index := Scalar.indexCast v84
  ![v98.toNat, 1, v100.toNat]

def k1_chk3 (v103 : IVec S16 32) : Prop :=
  (∀ a x, ((![v103] : Fin 1 → IVec S16 32) a x).toNat < S64.size a)
theorem k1_idx3_inb : ∀ (v103 : IVec S16 32) (k1_hw3 : k1_chk3 v103), ∀ a x, ((![v103] : Fin 1 → IVec S16 32) a x).toNat < S64.size a := fun v103 k1_hw3 => k1_hw3
def k1_off6 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v105 : Index := Scalar.indexCast v73
  let c2_i32_82 : BitVec 32 := 2#32
  let v106 : Index := Scalar.indexCast c2_i32_82
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v107 : Index := Scalar.indexCast v84
  ![v105.toNat, 2, v107.toNat]

def k1_chk4 (v110 : IVec S16 32) : Prop :=
  (∀ a x, ((![v110] : Fin 1 → IVec S16 32) a x).toNat < S64.size a)
theorem k1_idx4_inb : ∀ (v110 : IVec S16 32) (k1_hw4 : k1_chk4 v110), ∀ a x, ((![v110] : Fin 1 → IVec S16 32) a x).toNat < S64.size a := fun v110 k1_hw4 => k1_hw4
def k1_off7 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v112 : Index := Scalar.indexCast v73
  let c3_i32 : BitVec 32 := 3#32
  let v113 : Index := Scalar.indexCast c3_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v114 : Index := Scalar.indexCast v84
  ![v112.toNat, 3, v114.toNat]

def k1_chk5 (v117 : IVec S16 32) : Prop :=
  (∀ a x, ((![v117] : Fin 1 → IVec S16 32) a x).toNat < S64.size a)
theorem k1_idx5_inb : ∀ (v117 : IVec S16 32) (k1_hw5 : k1_chk5 v117), ∀ a x, ((![v117] : Fin 1 → IVec S16 32) a x).toNat < S64.size a := fun v117 k1_hw5 => k1_hw5
def k1_off8 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v119 : Index := Scalar.indexCast v73
  let c4_i32 : BitVec 32 := 4#32
  let v120 : Index := Scalar.indexCast c4_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v121 : Index := Scalar.indexCast v84
  ![v119.toNat, 4, v121.toNat]

def k1_chk6 (v124 : IVec S16 32) : Prop :=
  (∀ a x, ((![v124] : Fin 1 → IVec S16 32) a x).toNat < S64.size a)
theorem k1_idx6_inb : ∀ (v124 : IVec S16 32) (k1_hw6 : k1_chk6 v124), ∀ a x, ((![v124] : Fin 1 → IVec S16 32) a x).toNat < S64.size a := fun v124 k1_hw6 => k1_hw6
def k1_off9 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v126 : Index := Scalar.indexCast v73
  let c5_i32 : BitVec 32 := 5#32
  let v127 : Index := Scalar.indexCast c5_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v128 : Index := Scalar.indexCast v84
  ![v126.toNat, 5, v128.toNat]

def k1_chk7 (v131 : IVec S16 32) : Prop :=
  (∀ a x, ((![v131] : Fin 1 → IVec S16 32) a x).toNat < S64.size a)
theorem k1_idx7_inb : ∀ (v131 : IVec S16 32) (k1_hw7 : k1_chk7 v131), ∀ a x, ((![v131] : Fin 1 → IVec S16 32) a x).toNat < S64.size a := fun v131 k1_hw7 => k1_hw7
def k1_off10 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v133 : Index := Scalar.indexCast v73
  let c6_i32 : BitVec 32 := 6#32
  let v134 : Index := Scalar.indexCast c6_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v135 : Index := Scalar.indexCast v84
  ![v133.toNat, 6, v135.toNat]

def k1_chk8 (v138 : IVec S16 32) : Prop :=
  (∀ a x, ((![v138] : Fin 1 → IVec S16 32) a x).toNat < S64.size a)
theorem k1_idx8_inb : ∀ (v138 : IVec S16 32) (k1_hw8 : k1_chk8 v138), ∀ a x, ((![v138] : Fin 1 → IVec S16 32) a x).toNat < S64.size a := fun v138 k1_hw8 => k1_hw8
def k1_off11 (k1_t1 : Fin k1_t1_loop.trips) : Fin 3 → Nat :=
  let c0_i32_64 : BitVec 32 := 0#32
  let c0_i32_4 : BitVec 32 := 0#32
  let c1_i32_5 : BitVec 32 := 1#32
  let arg14 : BitVec 32 := Scf.iv c0_i32_4 c1_i32_5 k1_t1
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v140 : Index := Scalar.indexCast v73
  let c7_i32 : BitVec 32 := 7#32
  let v141 : Index := Scalar.indexCast c7_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v142 : Index := Scalar.indexCast v84
  ![v140.toNat, 7, v142.toNat]
def k1_off12 (i : grid1.Coords) (c0_i32_7 : BitVec 32) : Fin 3 → Nat :=
  let c8_i32_8 : BitVec 32 := 8#32
  let v14 : BitVec 32 := Scalar.muli c0_i32_7 c8_i32_8
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v14.toNat, 0, v2.toNat]
def k1_off12_at (r : Fin 3) : BitVec 32 :=
  if r.val < 1 then
    0#32
  else
    if r.val < 2 then
      1#32
    else
      24#32
def k1_off13 (i : grid1.Coords) (c0_i32_11 : BitVec 32) : Fin 2 → Nat :=
  let c2_i32_12 : BitVec 32 := 2#32
  let v17 : BitVec 32 := Scalar.addi c0_i32_11 c2_i32_12
  let c24_i32_13 : BitVec 32 := 24#32
  let v18 : BitVec 32 := Scalar.minsi v17 c24_i32_13
  let c8_i32_14 : BitVec 32 := 8#32
  let v19 : BitVec 32 := Scalar.muli v18 c8_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v19.toNat, v2.toNat]
def k1_off13_at (r : Fin 3) : BitVec 32 :=
  if r.val < 1 then
    0#32
  else
    if r.val < 2 then
      1#32
    else
      24#32
@[reducible] def k1_t2_loop : Scf.Loop 32 :=
  let c0_i32_17 : BitVec 32 := 0#32
  let c256_i32_18 : BitVec 32 := 256#32
  let v24 : BitVec 32 := Scalar.addi c0_i32_17 c256_i32_18
  let c1_i32_19 : BitVec 32 := 1#32
  ⟨c0_i32_17, v24, c1_i32_19⟩
def k1_off14 (k1_t2 : Fin k1_t2_loop.trips) : Fin 2 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v85 : Index := Scalar.indexCast v73
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v86 : Index := Scalar.indexCast v84
  ![v85.toNat, v86.toNat]

def k1_chk9 (v89 : IVec S16 32) : Prop :=
  (∀ a x, ((![v89] : Fin 1 → IVec S16 32) a x).toNat < S64.size a)
theorem k1_idx9_inb : ∀ (v89 : IVec S16 32) (k1_hw9 : k1_chk9 v89), ∀ a x, ((![v89] : Fin 1 → IVec S16 32) a x).toNat < S64.size a := fun v89 k1_hw9 => k1_hw9
def k1_off15 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v91 : Index := Scalar.indexCast v73
  let c0_i32_78 : BitVec 32 := 0#32
  let v92 : Index := Scalar.indexCast c0_i32_78
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v93 : Index := Scalar.indexCast v84
  ![v91.toNat, 0, v93.toNat]

def k1_chk10 (v96 : IVec S16 32) : Prop :=
  (∀ a x, ((![v96] : Fin 1 → IVec S16 32) a x).toNat < S64.size a)
theorem k1_idx10_inb : ∀ (v96 : IVec S16 32) (k1_hw10 : k1_chk10 v96), ∀ a x, ((![v96] : Fin 1 → IVec S16 32) a x).toNat < S64.size a := fun v96 k1_hw10 => k1_hw10
def k1_off16 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v98 : Index := Scalar.indexCast v73
  let c1_i32_80 : BitVec 32 := 1#32
  let v99 : Index := Scalar.indexCast c1_i32_80
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v100 : Index := Scalar.indexCast v84
  ![v98.toNat, 1, v100.toNat]

def k1_chk11 (v103 : IVec S16 32) : Prop :=
  (∀ a x, ((![v103] : Fin 1 → IVec S16 32) a x).toNat < S64.size a)
theorem k1_idx11_inb : ∀ (v103 : IVec S16 32) (k1_hw11 : k1_chk11 v103), ∀ a x, ((![v103] : Fin 1 → IVec S16 32) a x).toNat < S64.size a := fun v103 k1_hw11 => k1_hw11
def k1_off17 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v105 : Index := Scalar.indexCast v73
  let c2_i32_82 : BitVec 32 := 2#32
  let v106 : Index := Scalar.indexCast c2_i32_82
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v107 : Index := Scalar.indexCast v84
  ![v105.toNat, 2, v107.toNat]

def k1_chk12 (v110 : IVec S16 32) : Prop :=
  (∀ a x, ((![v110] : Fin 1 → IVec S16 32) a x).toNat < S64.size a)
theorem k1_idx12_inb : ∀ (v110 : IVec S16 32) (k1_hw12 : k1_chk12 v110), ∀ a x, ((![v110] : Fin 1 → IVec S16 32) a x).toNat < S64.size a := fun v110 k1_hw12 => k1_hw12
def k1_off18 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v112 : Index := Scalar.indexCast v73
  let c3_i32 : BitVec 32 := 3#32
  let v113 : Index := Scalar.indexCast c3_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v114 : Index := Scalar.indexCast v84
  ![v112.toNat, 3, v114.toNat]

def k1_chk13 (v117 : IVec S16 32) : Prop :=
  (∀ a x, ((![v117] : Fin 1 → IVec S16 32) a x).toNat < S64.size a)
theorem k1_idx13_inb : ∀ (v117 : IVec S16 32) (k1_hw13 : k1_chk13 v117), ∀ a x, ((![v117] : Fin 1 → IVec S16 32) a x).toNat < S64.size a := fun v117 k1_hw13 => k1_hw13
def k1_off19 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v119 : Index := Scalar.indexCast v73
  let c4_i32 : BitVec 32 := 4#32
  let v120 : Index := Scalar.indexCast c4_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v121 : Index := Scalar.indexCast v84
  ![v119.toNat, 4, v121.toNat]

def k1_chk14 (v124 : IVec S16 32) : Prop :=
  (∀ a x, ((![v124] : Fin 1 → IVec S16 32) a x).toNat < S64.size a)
theorem k1_idx14_inb : ∀ (v124 : IVec S16 32) (k1_hw14 : k1_chk14 v124), ∀ a x, ((![v124] : Fin 1 → IVec S16 32) a x).toNat < S64.size a := fun v124 k1_hw14 => k1_hw14
def k1_off20 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v126 : Index := Scalar.indexCast v73
  let c5_i32 : BitVec 32 := 5#32
  let v127 : Index := Scalar.indexCast c5_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v128 : Index := Scalar.indexCast v84
  ![v126.toNat, 5, v128.toNat]

def k1_chk15 (v131 : IVec S16 32) : Prop :=
  (∀ a x, ((![v131] : Fin 1 → IVec S16 32) a x).toNat < S64.size a)
theorem k1_idx15_inb : ∀ (v131 : IVec S16 32) (k1_hw15 : k1_chk15 v131), ∀ a x, ((![v131] : Fin 1 → IVec S16 32) a x).toNat < S64.size a := fun v131 k1_hw15 => k1_hw15
def k1_off21 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v133 : Index := Scalar.indexCast v73
  let c6_i32 : BitVec 32 := 6#32
  let v134 : Index := Scalar.indexCast c6_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v135 : Index := Scalar.indexCast v84
  ![v133.toNat, 6, v135.toNat]

def k1_chk16 (v138 : IVec S16 32) : Prop :=
  (∀ a x, ((![v138] : Fin 1 → IVec S16 32) a x).toNat < S64.size a)
theorem k1_idx16_inb : ∀ (v138 : IVec S16 32) (k1_hw16 : k1_chk16 v138), ∀ a x, ((![v138] : Fin 1 → IVec S16 32) a x).toNat < S64.size a := fun v138 k1_hw16 => k1_hw16
def k1_off22 (k1_t2 : Fin k1_t2_loop.trips) : Fin 3 → Nat :=
  let c0_i32_64 : BitVec 32 := 0#32
  let c0_i32_17 : BitVec 32 := 0#32
  let c1_i32_19 : BitVec 32 := 1#32
  let arg14 : BitVec 32 := Scf.iv c0_i32_17 c1_i32_19 k1_t2
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v140 : Index := Scalar.indexCast v73
  let c7_i32 : BitVec 32 := 7#32
  let v141 : Index := Scalar.indexCast c7_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v142 : Index := Scalar.indexCast v84
  ![v140.toNat, 7, v142.toNat]
@[reducible] def k1_t3_loop : Scf.Loop 32 :=
  let c1_i32_30 : BitVec 32 := 1#32
  let c11_i32 : BitVec 32 := 11#32
  let v33 : BitVec 32 := Scalar.addi c1_i32_30 c11_i32
  let c1_i32_31 : BitVec 32 := 1#32
  ⟨c1_i32_30, v33, c1_i32_31⟩
def k1_off23 (i : grid1.Coords) : Fin 3 → Nat :=
  let c0_i32_63 : BitVec 32 := 0#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, 0, v2.toNat]
def k1_off24 (i : grid1.Coords) : Fin 2 → Nat :=
  let c0_i32_68 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t4_loop : Scf.Loop 32 :=
  let c0_i32_70 : BitVec 32 := 0#32
  let c256_i32_71 : BitVec 32 := 256#32
  let v60 : BitVec 32 := Scalar.addi c0_i32_70 c256_i32_71
  let c1_i32_72 : BitVec 32 := 1#32
  ⟨c0_i32_70, v60, c1_i32_72⟩
def k1_off25 (k1_t4 : Fin k1_t4_loop.trips) : Fin 2 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v114 : Index := Scalar.indexCast v102
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v115 : Index := Scalar.indexCast v113
  ![v114.toNat, v115.toNat]

def k1_chk17 (v118 : IVec S16 32) : Prop :=
  (∀ a x, ((![v118] : Fin 1 → IVec S16 32) a x).toNat < S64.size a)
theorem k1_idx17_inb : ∀ (v118 : IVec S16 32) (k1_hw17 : k1_chk17 v118), ∀ a x, ((![v118] : Fin 1 → IVec S16 32) a x).toNat < S64.size a := fun v118 k1_hw17 => k1_hw17
def k1_off26 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v120 : Index := Scalar.indexCast v102
  let c0_i32_113 : BitVec 32 := 0#32
  let v121 : Index := Scalar.indexCast c0_i32_113
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v122 : Index := Scalar.indexCast v113
  ![v120.toNat, 0, v122.toNat]

def k1_chk18 (v125 : IVec S16 32) : Prop :=
  (∀ a x, ((![v125] : Fin 1 → IVec S16 32) a x).toNat < S64.size a)
theorem k1_idx18_inb : ∀ (v125 : IVec S16 32) (k1_hw18 : k1_chk18 v125), ∀ a x, ((![v125] : Fin 1 → IVec S16 32) a x).toNat < S64.size a := fun v125 k1_hw18 => k1_hw18
def k1_off27 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v127 : Index := Scalar.indexCast v102
  let c1_i32_115 : BitVec 32 := 1#32
  let v128 : Index := Scalar.indexCast c1_i32_115
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v129 : Index := Scalar.indexCast v113
  ![v127.toNat, 1, v129.toNat]

def k1_chk19 (v132 : IVec S16 32) : Prop :=
  (∀ a x, ((![v132] : Fin 1 → IVec S16 32) a x).toNat < S64.size a)
theorem k1_idx19_inb : ∀ (v132 : IVec S16 32) (k1_hw19 : k1_chk19 v132), ∀ a x, ((![v132] : Fin 1 → IVec S16 32) a x).toNat < S64.size a := fun v132 k1_hw19 => k1_hw19
def k1_off28 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v134 : Index := Scalar.indexCast v102
  let c2_i32_117 : BitVec 32 := 2#32
  let v135 : Index := Scalar.indexCast c2_i32_117
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v136 : Index := Scalar.indexCast v113
  ![v134.toNat, 2, v136.toNat]

def k1_chk20 (v139 : IVec S16 32) : Prop :=
  (∀ a x, ((![v139] : Fin 1 → IVec S16 32) a x).toNat < S64.size a)
theorem k1_idx20_inb : ∀ (v139 : IVec S16 32) (k1_hw20 : k1_chk20 v139), ∀ a x, ((![v139] : Fin 1 → IVec S16 32) a x).toNat < S64.size a := fun v139 k1_hw20 => k1_hw20
def k1_off29 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v141 : Index := Scalar.indexCast v102
  let c3_i32 : BitVec 32 := 3#32
  let v142 : Index := Scalar.indexCast c3_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v143 : Index := Scalar.indexCast v113
  ![v141.toNat, 3, v143.toNat]

def k1_chk21 (v146 : IVec S16 32) : Prop :=
  (∀ a x, ((![v146] : Fin 1 → IVec S16 32) a x).toNat < S64.size a)
theorem k1_idx21_inb : ∀ (v146 : IVec S16 32) (k1_hw21 : k1_chk21 v146), ∀ a x, ((![v146] : Fin 1 → IVec S16 32) a x).toNat < S64.size a := fun v146 k1_hw21 => k1_hw21
def k1_off30 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v148 : Index := Scalar.indexCast v102
  let c4_i32 : BitVec 32 := 4#32
  let v149 : Index := Scalar.indexCast c4_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v150 : Index := Scalar.indexCast v113
  ![v148.toNat, 4, v150.toNat]

def k1_chk22 (v153 : IVec S16 32) : Prop :=
  (∀ a x, ((![v153] : Fin 1 → IVec S16 32) a x).toNat < S64.size a)
theorem k1_idx22_inb : ∀ (v153 : IVec S16 32) (k1_hw22 : k1_chk22 v153), ∀ a x, ((![v153] : Fin 1 → IVec S16 32) a x).toNat < S64.size a := fun v153 k1_hw22 => k1_hw22
def k1_off31 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v155 : Index := Scalar.indexCast v102
  let c5_i32 : BitVec 32 := 5#32
  let v156 : Index := Scalar.indexCast c5_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v157 : Index := Scalar.indexCast v113
  ![v155.toNat, 5, v157.toNat]

def k1_chk23 (v160 : IVec S16 32) : Prop :=
  (∀ a x, ((![v160] : Fin 1 → IVec S16 32) a x).toNat < S64.size a)
theorem k1_idx23_inb : ∀ (v160 : IVec S16 32) (k1_hw23 : k1_chk23 v160), ∀ a x, ((![v160] : Fin 1 → IVec S16 32) a x).toNat < S64.size a := fun v160 k1_hw23 => k1_hw23
def k1_off32 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v162 : Index := Scalar.indexCast v102
  let c6_i32 : BitVec 32 := 6#32
  let v163 : Index := Scalar.indexCast c6_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v164 : Index := Scalar.indexCast v113
  ![v162.toNat, 6, v164.toNat]

def k1_chk24 (v167 : IVec S16 32) : Prop :=
  (∀ a x, ((![v167] : Fin 1 → IVec S16 32) a x).toNat < S64.size a)
theorem k1_idx24_inb : ∀ (v167 : IVec S16 32) (k1_hw24 : k1_chk24 v167), ∀ a x, ((![v167] : Fin 1 → IVec S16 32) a x).toNat < S64.size a := fun v167 k1_hw24 => k1_hw24
def k1_off33 (k1_t4 : Fin k1_t4_loop.trips) : Fin 3 → Nat :=
  let c0_i32_99 : BitVec 32 := 0#32
  let c0_i32_70 : BitVec 32 := 0#32
  let c1_i32_72 : BitVec 32 := 1#32
  let arg15 : BitVec 32 := Scf.iv c0_i32_70 c1_i32_72 k1_t4
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v169 : Index := Scalar.indexCast v102
  let c7_i32 : BitVec 32 := 7#32
  let v170 : Index := Scalar.indexCast c7_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v171 : Index := Scalar.indexCast v113
  ![v169.toNat, 7, v171.toNat]
def k1_off34 (i : grid1.Coords) (k1_t3 : Fin k1_t3_loop.trips) : Fin 3 → Nat :=
  let c2_i32_67 : BitVec 32 := 2#32
  let c1_i32_30 : BitVec 32 := 1#32
  let c1_i32_31 : BitVec 32 := 1#32
  let arg14 : BitVec 32 := Scf.iv c1_i32_30 c1_i32_31 k1_t3
  let v57 : BitVec 32 := Scalar.muli c2_i32_67 arg14
  let c8_i32_74 : BitVec 32 := 8#32
  let v61 : BitVec 32 := Scalar.muli v57 c8_i32_74
  let c0_i32_75 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v61.toNat, 0, v2.toNat]
def k1_off35 (i : grid1.Coords) (k1_t3 : Fin k1_t3_loop.trips) : Fin 2 → Nat :=
  let c2_i32_67 : BitVec 32 := 2#32
  let c1_i32_30 : BitVec 32 := 1#32
  let c1_i32_31 : BitVec 32 := 1#32
  let arg14 : BitVec 32 := Scf.iv c1_i32_30 c1_i32_31 k1_t3
  let v57 : BitVec 32 := Scalar.muli c2_i32_67 arg14
  let c2_i32_77 : BitVec 32 := 2#32
  let v64 : BitVec 32 := Scalar.addi v57 c2_i32_77
  let c24_i32_78 : BitVec 32 := 24#32
  let v65 : BitVec 32 := Scalar.minsi v64 c24_i32_78
  let c8_i32_79 : BitVec 32 := 8#32
  let v66 : BitVec 32 := Scalar.muli v65 c8_i32_79
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v66.toNat, v2.toNat]
@[reducible] def k1_t5_loop : Scf.Loop 32 :=
  let c0_i32_88 : BitVec 32 := 0#32
  let c256_i32_89 : BitVec 32 := 256#32
  let v75 : BitVec 32 := Scalar.addi c0_i32_88 c256_i32_89
  let c1_i32_90 : BitVec 32 := 1#32
  ⟨c0_i32_88, v75, c1_i32_90⟩
def k1_off36 (k1_t5 : Fin k1_t5_loop.trips) : Fin 2 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v114 : Index := Scalar.indexCast v102
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v115 : Index := Scalar.indexCast v113
  ![v114.toNat, v115.toNat]

def k1_chk25 (v118 : IVec S16 32) : Prop :=
  (∀ a x, ((![v118] : Fin 1 → IVec S16 32) a x).toNat < S64.size a)
theorem k1_idx25_inb : ∀ (v118 : IVec S16 32) (k1_hw25 : k1_chk25 v118), ∀ a x, ((![v118] : Fin 1 → IVec S16 32) a x).toNat < S64.size a := fun v118 k1_hw25 => k1_hw25
def k1_off37 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v120 : Index := Scalar.indexCast v102
  let c0_i32_113 : BitVec 32 := 0#32
  let v121 : Index := Scalar.indexCast c0_i32_113
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v122 : Index := Scalar.indexCast v113
  ![v120.toNat, 0, v122.toNat]

def k1_chk26 (v125 : IVec S16 32) : Prop :=
  (∀ a x, ((![v125] : Fin 1 → IVec S16 32) a x).toNat < S64.size a)
theorem k1_idx26_inb : ∀ (v125 : IVec S16 32) (k1_hw26 : k1_chk26 v125), ∀ a x, ((![v125] : Fin 1 → IVec S16 32) a x).toNat < S64.size a := fun v125 k1_hw26 => k1_hw26
def k1_off38 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v127 : Index := Scalar.indexCast v102
  let c1_i32_115 : BitVec 32 := 1#32
  let v128 : Index := Scalar.indexCast c1_i32_115
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v129 : Index := Scalar.indexCast v113
  ![v127.toNat, 1, v129.toNat]

def k1_chk27 (v132 : IVec S16 32) : Prop :=
  (∀ a x, ((![v132] : Fin 1 → IVec S16 32) a x).toNat < S64.size a)
theorem k1_idx27_inb : ∀ (v132 : IVec S16 32) (k1_hw27 : k1_chk27 v132), ∀ a x, ((![v132] : Fin 1 → IVec S16 32) a x).toNat < S64.size a := fun v132 k1_hw27 => k1_hw27
def k1_off39 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v134 : Index := Scalar.indexCast v102
  let c2_i32_117 : BitVec 32 := 2#32
  let v135 : Index := Scalar.indexCast c2_i32_117
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v136 : Index := Scalar.indexCast v113
  ![v134.toNat, 2, v136.toNat]

def k1_chk28 (v139 : IVec S16 32) : Prop :=
  (∀ a x, ((![v139] : Fin 1 → IVec S16 32) a x).toNat < S64.size a)
theorem k1_idx28_inb : ∀ (v139 : IVec S16 32) (k1_hw28 : k1_chk28 v139), ∀ a x, ((![v139] : Fin 1 → IVec S16 32) a x).toNat < S64.size a := fun v139 k1_hw28 => k1_hw28
def k1_off40 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v141 : Index := Scalar.indexCast v102
  let c3_i32 : BitVec 32 := 3#32
  let v142 : Index := Scalar.indexCast c3_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v143 : Index := Scalar.indexCast v113
  ![v141.toNat, 3, v143.toNat]

def k1_chk29 (v146 : IVec S16 32) : Prop :=
  (∀ a x, ((![v146] : Fin 1 → IVec S16 32) a x).toNat < S64.size a)
theorem k1_idx29_inb : ∀ (v146 : IVec S16 32) (k1_hw29 : k1_chk29 v146), ∀ a x, ((![v146] : Fin 1 → IVec S16 32) a x).toNat < S64.size a := fun v146 k1_hw29 => k1_hw29
def k1_off41 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v148 : Index := Scalar.indexCast v102
  let c4_i32 : BitVec 32 := 4#32
  let v149 : Index := Scalar.indexCast c4_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v150 : Index := Scalar.indexCast v113
  ![v148.toNat, 4, v150.toNat]

def k1_chk30 (v153 : IVec S16 32) : Prop :=
  (∀ a x, ((![v153] : Fin 1 → IVec S16 32) a x).toNat < S64.size a)
theorem k1_idx30_inb : ∀ (v153 : IVec S16 32) (k1_hw30 : k1_chk30 v153), ∀ a x, ((![v153] : Fin 1 → IVec S16 32) a x).toNat < S64.size a := fun v153 k1_hw30 => k1_hw30
def k1_off42 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v155 : Index := Scalar.indexCast v102
  let c5_i32 : BitVec 32 := 5#32
  let v156 : Index := Scalar.indexCast c5_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v157 : Index := Scalar.indexCast v113
  ![v155.toNat, 5, v157.toNat]

def k1_chk31 (v160 : IVec S16 32) : Prop :=
  (∀ a x, ((![v160] : Fin 1 → IVec S16 32) a x).toNat < S64.size a)
theorem k1_idx31_inb : ∀ (v160 : IVec S16 32) (k1_hw31 : k1_chk31 v160), ∀ a x, ((![v160] : Fin 1 → IVec S16 32) a x).toNat < S64.size a := fun v160 k1_hw31 => k1_hw31
def k1_off43 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v162 : Index := Scalar.indexCast v102
  let c6_i32 : BitVec 32 := 6#32
  let v163 : Index := Scalar.indexCast c6_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v164 : Index := Scalar.indexCast v113
  ![v162.toNat, 6, v164.toNat]

def k1_chk32 (v167 : IVec S16 32) : Prop :=
  (∀ a x, ((![v167] : Fin 1 → IVec S16 32) a x).toNat < S64.size a)
theorem k1_idx32_inb : ∀ (v167 : IVec S16 32) (k1_hw32 : k1_chk32 v167), ∀ a x, ((![v167] : Fin 1 → IVec S16 32) a x).toNat < S64.size a := fun v167 k1_hw32 => k1_hw32
def k1_off44 (k1_t5 : Fin k1_t5_loop.trips) : Fin 3 → Nat :=
  let c0_i32_99 : BitVec 32 := 0#32
  let c0_i32_88 : BitVec 32 := 0#32
  let c1_i32_90 : BitVec 32 := 1#32
  let arg15 : BitVec 32 := Scf.iv c0_i32_88 c1_i32_90 k1_t5
  let c1_i32_98 : BitVec 32 := 1#32
  let v84 : BitVec 32 := Scalar.muli arg15 c1_i32_98
  let v85 : BitVec 32 := Scalar.addi c0_i32_99 v84
  let c0_i32_100 : BitVec 32 := 0#32
  let v87 : BitVec 1 := Scalar.cmpi .sgt v85 c0_i32_100
  let v88 : BitVec 32 := Scalar.extui v87
  let c0_i32_101 : BitVec 32 := 0#32
  let v89 : BitVec 1 := Scalar.cmpi .slt v85 c0_i32_101
  let v90 : BitVec 32 := Scalar.extui v89
  let v91 : BitVec 32 := Scalar.subi v88 v90
  let c32_i32 : BitVec 32 := 32#32
  let c0_i32_102 : BitVec 32 := 0#32
  let v92 : BitVec 1 := Scalar.cmpi .sgt c32_i32 c0_i32_102
  let v93 : BitVec 32 := Scalar.extui v92
  let c0_i32_103 : BitVec 32 := 0#32
  let v94 : BitVec 1 := Scalar.cmpi .slt c32_i32 c0_i32_103
  let v95 : BitVec 32 := Scalar.extui v94
  let v96 : BitVec 32 := Scalar.subi v93 v95
  let v97 : BitVec 1 := Scalar.cmpi .ne v91 v96
  let v98 : BitVec 32 := Scalar.remsi v85 c32_i32
  let c0_i32_104 : BitVec 32 := 0#32
  let v99 : BitVec 1 := Scalar.cmpi .ne v98 c0_i32_104
  let v100 : BitVec 1 := Scalar.andi v97 v99
  let v86 : BitVec 32 := Scalar.divsi v85 c32_i32
  let c1_i32_105 : BitVec 32 := 1#32
  let v101 : BitVec 32 := Scalar.subi v86 c1_i32_105
  let v102 : BitVec 32 := Scalar.select v100 v101 v86
  let v169 : Index := Scalar.indexCast v102
  let c7_i32 : BitVec 32 := 7#32
  let v170 : Index := Scalar.indexCast c7_i32
  let c32_i32_106 : BitVec 32 := 32#32
  let c0_i32_107 : BitVec 32 := 0#32
  let v103 : BitVec 1 := Scalar.cmpi .eq c32_i32_106 c0_i32_107
  let c1_i32_108 : BitVec 32 := 1#32
  let v104 : BitVec 32 := Scalar.select v103 c1_i32_108 c32_i32_106
  let v105 : BitVec 32 := Scalar.remsi v85 v104
  let c0_i32_110 : BitVec 32 := 0#32
  let v107 : BitVec 1 := Scalar.cmpi .slt v105 c0_i32_110
  let c0_i32_111 : BitVec 32 := 0#32
  let v108 : BitVec 1 := Scalar.cmpi .slt v104 c0_i32_111
  let v109 : BitVec 1 := Scalar.xori v107 v108
  let c0_i32_109 : BitVec 32 := 0#32
  let v106 : BitVec 1 := Scalar.cmpi .ne v105 c0_i32_109
  let v110 : BitVec 1 := Scalar.andi v109 v106
  let v111 : BitVec 32 := Scalar.addi v105 v104
  let v112 : BitVec 32 := Scalar.select v110 v111 v105
  let c16_i32 : BitVec 32 := 16#32
  let v113 : BitVec 32 := Scalar.muli v112 c16_i32
  let v171 : Index := Scalar.indexCast v113
  ![v169.toNat, 7, v171.toNat]
def k1_off45 (i : grid1.Coords) (k1_t3 : Fin k1_t3_loop.trips) : Fin 3 → Nat :=
  let c2_i32_84 : BitVec 32 := 2#32
  let c1_i32_30 : BitVec 32 := 1#32
  let c1_i32_31 : BitVec 32 := 1#32
  let arg14 : BitVec 32 := Scf.iv c1_i32_30 c1_i32_31 k1_t3
  let v71 : BitVec 32 := Scalar.muli c2_i32_84 arg14
  let c1_i32_85 : BitVec 32 := 1#32
  let v72 : BitVec 32 := Scalar.addi v71 c1_i32_85
  let c8_i32_92 : BitVec 32 := 8#32
  let v76 : BitVec 32 := Scalar.muli v72 c8_i32_92
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v76.toNat, 0, v2.toNat]
def k1_off46 (i : grid1.Coords) (k1_t3 : Fin k1_t3_loop.trips) : Fin 2 → Nat :=
  let c2_i32_84 : BitVec 32 := 2#32
  let c1_i32_30 : BitVec 32 := 1#32
  let c1_i32_31 : BitVec 32 := 1#32
  let arg14 : BitVec 32 := Scf.iv c1_i32_30 c1_i32_31 k1_t3
  let v71 : BitVec 32 := Scalar.muli c2_i32_84 arg14
  let c1_i32_85 : BitVec 32 := 1#32
  let v72 : BitVec 32 := Scalar.addi v71 c1_i32_85
  let c2_i32_95 : BitVec 32 := 2#32
  let v79 : BitVec 32 := Scalar.addi v72 c2_i32_95
  let c24_i32_96 : BitVec 32 := 24#32
  let v80 : BitVec 32 := Scalar.minsi v79 c24_i32_96
  let c8_i32_97 : BitVec 32 := 8#32
  let v81 : BitVec 32 := Scalar.muli v80 c8_i32_97
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v81.toNat, v2.toNat]
def k1_off47 (i : grid1.Coords) : Fin 3 → Nat :=
  let c0_i32_33 : BitVec 32 := 0#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, 0, v2.toNat]
@[reducible] def k1_t6_loop : Scf.Loop 32 :=
  let c0_i32_39 : BitVec 32 := 0#32
  let c256_i32_40 : BitVec 32 := 256#32
  let v38 : BitVec 32 := Scalar.addi c0_i32_39 c256_i32_40
  let c1_i32_41 : BitVec 32 := 1#32
  ⟨c0_i32_39, v38, c1_i32_41⟩
def k1_off48 (k1_t6 : Fin k1_t6_loop.trips) : Fin 2 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v85 : Index := Scalar.indexCast v73
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v86 : Index := Scalar.indexCast v84
  ![v85.toNat, v86.toNat]

def k1_chk33 (v89 : IVec S16 32) : Prop :=
  (∀ a x, ((![v89] : Fin 1 → IVec S16 32) a x).toNat < S64.size a)
theorem k1_idx33_inb : ∀ (v89 : IVec S16 32) (k1_hw33 : k1_chk33 v89), ∀ a x, ((![v89] : Fin 1 → IVec S16 32) a x).toNat < S64.size a := fun v89 k1_hw33 => k1_hw33
def k1_off49 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v91 : Index := Scalar.indexCast v73
  let c0_i32_78 : BitVec 32 := 0#32
  let v92 : Index := Scalar.indexCast c0_i32_78
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v93 : Index := Scalar.indexCast v84
  ![v91.toNat, 0, v93.toNat]

def k1_chk34 (v96 : IVec S16 32) : Prop :=
  (∀ a x, ((![v96] : Fin 1 → IVec S16 32) a x).toNat < S64.size a)
theorem k1_idx34_inb : ∀ (v96 : IVec S16 32) (k1_hw34 : k1_chk34 v96), ∀ a x, ((![v96] : Fin 1 → IVec S16 32) a x).toNat < S64.size a := fun v96 k1_hw34 => k1_hw34
def k1_off50 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v98 : Index := Scalar.indexCast v73
  let c1_i32_80 : BitVec 32 := 1#32
  let v99 : Index := Scalar.indexCast c1_i32_80
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v100 : Index := Scalar.indexCast v84
  ![v98.toNat, 1, v100.toNat]

def k1_chk35 (v103 : IVec S16 32) : Prop :=
  (∀ a x, ((![v103] : Fin 1 → IVec S16 32) a x).toNat < S64.size a)
theorem k1_idx35_inb : ∀ (v103 : IVec S16 32) (k1_hw35 : k1_chk35 v103), ∀ a x, ((![v103] : Fin 1 → IVec S16 32) a x).toNat < S64.size a := fun v103 k1_hw35 => k1_hw35
def k1_off51 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v105 : Index := Scalar.indexCast v73
  let c2_i32_82 : BitVec 32 := 2#32
  let v106 : Index := Scalar.indexCast c2_i32_82
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v107 : Index := Scalar.indexCast v84
  ![v105.toNat, 2, v107.toNat]

def k1_chk36 (v110 : IVec S16 32) : Prop :=
  (∀ a x, ((![v110] : Fin 1 → IVec S16 32) a x).toNat < S64.size a)
theorem k1_idx36_inb : ∀ (v110 : IVec S16 32) (k1_hw36 : k1_chk36 v110), ∀ a x, ((![v110] : Fin 1 → IVec S16 32) a x).toNat < S64.size a := fun v110 k1_hw36 => k1_hw36
def k1_off52 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v112 : Index := Scalar.indexCast v73
  let c3_i32 : BitVec 32 := 3#32
  let v113 : Index := Scalar.indexCast c3_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v114 : Index := Scalar.indexCast v84
  ![v112.toNat, 3, v114.toNat]

def k1_chk37 (v117 : IVec S16 32) : Prop :=
  (∀ a x, ((![v117] : Fin 1 → IVec S16 32) a x).toNat < S64.size a)
theorem k1_idx37_inb : ∀ (v117 : IVec S16 32) (k1_hw37 : k1_chk37 v117), ∀ a x, ((![v117] : Fin 1 → IVec S16 32) a x).toNat < S64.size a := fun v117 k1_hw37 => k1_hw37
def k1_off53 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v119 : Index := Scalar.indexCast v73
  let c4_i32 : BitVec 32 := 4#32
  let v120 : Index := Scalar.indexCast c4_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v121 : Index := Scalar.indexCast v84
  ![v119.toNat, 4, v121.toNat]

def k1_chk38 (v124 : IVec S16 32) : Prop :=
  (∀ a x, ((![v124] : Fin 1 → IVec S16 32) a x).toNat < S64.size a)
theorem k1_idx38_inb : ∀ (v124 : IVec S16 32) (k1_hw38 : k1_chk38 v124), ∀ a x, ((![v124] : Fin 1 → IVec S16 32) a x).toNat < S64.size a := fun v124 k1_hw38 => k1_hw38
def k1_off54 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v126 : Index := Scalar.indexCast v73
  let c5_i32 : BitVec 32 := 5#32
  let v127 : Index := Scalar.indexCast c5_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v128 : Index := Scalar.indexCast v84
  ![v126.toNat, 5, v128.toNat]

def k1_chk39 (v131 : IVec S16 32) : Prop :=
  (∀ a x, ((![v131] : Fin 1 → IVec S16 32) a x).toNat < S64.size a)
theorem k1_idx39_inb : ∀ (v131 : IVec S16 32) (k1_hw39 : k1_chk39 v131), ∀ a x, ((![v131] : Fin 1 → IVec S16 32) a x).toNat < S64.size a := fun v131 k1_hw39 => k1_hw39
def k1_off55 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v133 : Index := Scalar.indexCast v73
  let c6_i32 : BitVec 32 := 6#32
  let v134 : Index := Scalar.indexCast c6_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v135 : Index := Scalar.indexCast v84
  ![v133.toNat, 6, v135.toNat]

def k1_chk40 (v138 : IVec S16 32) : Prop :=
  (∀ a x, ((![v138] : Fin 1 → IVec S16 32) a x).toNat < S64.size a)
theorem k1_idx40_inb : ∀ (v138 : IVec S16 32) (k1_hw40 : k1_chk40 v138), ∀ a x, ((![v138] : Fin 1 → IVec S16 32) a x).toNat < S64.size a := fun v138 k1_hw40 => k1_hw40
def k1_off56 (k1_t6 : Fin k1_t6_loop.trips) : Fin 3 → Nat :=
  let c0_i32_64 : BitVec 32 := 0#32
  let c0_i32_39 : BitVec 32 := 0#32
  let c1_i32_41 : BitVec 32 := 1#32
  let arg14 : BitVec 32 := Scf.iv c0_i32_39 c1_i32_41 k1_t6
  let c1_i32_63 : BitVec 32 := 1#32
  let v55 : BitVec 32 := Scalar.muli arg14 c1_i32_63
  let v56 : BitVec 32 := Scalar.addi c0_i32_64 v55
  let c0_i32_65 : BitVec 32 := 0#32
  let v58 : BitVec 1 := Scalar.cmpi .sgt v56 c0_i32_65
  let v59 : BitVec 32 := Scalar.extui v58
  let c0_i32_66 : BitVec 32 := 0#32
  let v60 : BitVec 1 := Scalar.cmpi .slt v56 c0_i32_66
  let v61 : BitVec 32 := Scalar.extui v60
  let v62 : BitVec 32 := Scalar.subi v59 v61
  let c32_i32 : BitVec 32 := 32#32
  let c0_i32_67 : BitVec 32 := 0#32
  let v63 : BitVec 1 := Scalar.cmpi .sgt c32_i32 c0_i32_67
  let v64 : BitVec 32 := Scalar.extui v63
  let c0_i32_68 : BitVec 32 := 0#32
  let v65 : BitVec 1 := Scalar.cmpi .slt c32_i32 c0_i32_68
  let v66 : BitVec 32 := Scalar.extui v65
  let v67 : BitVec 32 := Scalar.subi v64 v66
  let v68 : BitVec 1 := Scalar.cmpi .ne v62 v67
  let v69 : BitVec 32 := Scalar.remsi v56 c32_i32
  let c0_i32_69 : BitVec 32 := 0#32
  let v70 : BitVec 1 := Scalar.cmpi .ne v69 c0_i32_69
  let v71 : BitVec 1 := Scalar.andi v68 v70
  let v57 : BitVec 32 := Scalar.divsi v56 c32_i32
  let c1_i32_70 : BitVec 32 := 1#32
  let v72 : BitVec 32 := Scalar.subi v57 c1_i32_70
  let v73 : BitVec 32 := Scalar.select v71 v72 v57
  let v140 : Index := Scalar.indexCast v73
  let c7_i32 : BitVec 32 := 7#32
  let v141 : Index := Scalar.indexCast c7_i32
  let c32_i32_71 : BitVec 32 := 32#32
  let c0_i32_72 : BitVec 32 := 0#32
  let v74 : BitVec 1 := Scalar.cmpi .eq c32_i32_71 c0_i32_72
  let c1_i32_73 : BitVec 32 := 1#32
  let v75 : BitVec 32 := Scalar.select v74 c1_i32_73 c32_i32_71
  let v76 : BitVec 32 := Scalar.remsi v56 v75
  let c0_i32_75 : BitVec 32 := 0#32
  let v78 : BitVec 1 := Scalar.cmpi .slt v76 c0_i32_75
  let c0_i32_76 : BitVec 32 := 0#32
  let v79 : BitVec 1 := Scalar.cmpi .slt v75 c0_i32_76
  let v80 : BitVec 1 := Scalar.xori v78 v79
  let c0_i32_74 : BitVec 32 := 0#32
  let v77 : BitVec 1 := Scalar.cmpi .ne v76 c0_i32_74
  let v81 : BitVec 1 := Scalar.andi v80 v77
  let v82 : BitVec 32 := Scalar.addi v76 v75
  let v83 : BitVec 32 := Scalar.select v81 v82 v76
  let c16_i32 : BitVec 32 := 16#32
  let v84 : BitVec 32 := Scalar.muli v83 c16_i32
  let v142 : Index := Scalar.indexCast v84
  ![v140.toNat, 7, v142.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S8x16 : Shape := ⟨2, ![8, 16]⟩
abbrev S8 : Shape := ⟨1, ![8]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x16 : Shape := ⟨3, ![16384, 200, 16]⟩
abbrev S16384x200x8 : Shape := ⟨3, ![16384, 200, 8]⟩
abbrev S1x1x8 : Shape := ⟨3, ![1, 1, 8]⟩

abbrev nBuf : Space → Nat
  | .hbm => 31
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S8x16, .f32⟩
  | .hbm, ⟨2, _⟩ => ⟨S8x16, .f32⟩
  | .hbm, ⟨3, _⟩ => ⟨S8, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x16, .f32⟩
  | .hbm, ⟨23, _⟩ => ⟨S16384x200x16, .i1⟩
  | .hbm, ⟨24, _⟩ => ⟨S_, .f32⟩
  | .hbm, ⟨25, _⟩ => ⟨S16384x200x16, .f32⟩
  | .hbm, ⟨26, _⟩ => ⟨S16384x200x16, .f32⟩
  | .hbm, ⟨27, _⟩ => ⟨S16384x200x8, .f32⟩
  | .hbm, ⟨28, _⟩ => ⟨S1x1x8, .f32⟩
  | .hbm, ⟨29, _⟩ => ⟨S16384x200x8, .f32⟩
  | .hbm, ⟨30, _⟩ => ⟨S16384x200x8, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Range.lean ====
/-
  What the precondition says of the tokens: each one is a class, a word below eight.
-/
module

public import proofs.«01_k».proof.Pre_in_range
public import proofs.«01_k».proof.Proof.Gen.Pre_in_range
public import Idealize.ShloMosaic.Lib.ReduceAll
public import Idealize.ShloMosaic.Lib.Affine

@[expose] public section

noncomputable section

namespace Cert.Proof.Lookup

open Idealize.ShloMosaic
open Cert.Pre_in_range Cert.Pre_in_range.Gen

variable {F : FTy → Type} [FloatOps F]

/-- A word that is at least 0 and below 8, read signed, is below 8 read unsigned. -/
theorem word_lt {v : BitVec 32} (h0 : IntOp.cmpi .sge v 0#32 = 1#1) (h8 : IntOp.cmpi .slt v 8#32 = 1#1) : v.toNat < 8 := by
  have a := IntOp.cmpi_sge.1 h0
  have b := IntOp.cmpi_slt.1 h8
  have z : (0#32 : BitVec 32).toInt = 0 := rfl
  have e : (8#32 : BitVec 32).toInt = 8 := rfl
  have k := BitVec.toInt_eq_toNat_cond v
  have := v.isLt
  rw [z] at a
  rw [e] at b
  split at k <;> omega

/-- Under the precondition every token is below eight. -/
theorem token_lt (X : IVec S16384x200 32) (E W : FVec F S8x16 .f32) (b : FVec F S8 .f32)
    (h : Cert.Pre_in_range.fn (F := F) X E W b = fun _ => 1#1) (i : S16384x200.Idx) : (X i).toNat < 8 := by
  haveI : Subsingleton S_.Idx := ⟨fun x y => funext fun a => a.elim0⟩
  have e := congrFun h (fun a : Fin 0 => a.elim0)
  dsimp only [Cert.Pre_in_range.fn] at e
  obtain ⟨h0, h8⟩ := IntOp.andi_eq_one.1 (Host.reduce_andi_all _ _ _ _ _ e i)
  exact word_lt h0 h8

end Cert.Proof.Lookup

end

end
-- ==== Proof.Base.lean ====
/-
  The kernel program as the launch theorem of the vector subcores sees it, the resource algebra, and the names of the
  buffers and semaphores that one task touches.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.WritesUnit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program below its SparseCore call. -/
abbrev ΛP : Labels := Pipeline.Sig Λ₀ (Fin 1) fun p => (pcfgs (F := F) p).Adm
/-- The one SparseCore call of the program. -/
abbrev K : SparseCore.Cfg τ sig (ΛP (F := F)) 1 := sc (F := F)
/-- The definitions that the SparseCore call's threads run over. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The layout facts of the SparseCore call, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The ghost state: the handshakes' rounds, the rounds of the TensorCore call's pipeline, the counters of the transfers. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The transfers' counters. -/
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## One task's buffers -/

/-- The transposed tokens, the table and the result, as a vector subcore names them. -/
abbrev xV : Memref sig .scVector .hbm S200x16384 .i32 := Memref.whole main_v5_scv
abbrev tV : Memref sig .scVector .hbm S64 .f32 := Memref.whole main_v4_scv
abbrev oV : Memref sig .scVector .hbm S200x8x16384 .f32 := Memref.whole main_v6_scv
/-- A task's scratch: its copy of the table, the two buffers of tokens, the two buffers of results. -/
abbrev sT : Memref sig .scVector .vmem S64 .f32 := Memref.whole cc1_scratch0
abbrev sXA : Memref sig .scVector .vmem S8x512 .i32 := Memref.whole cc1_scratch1
abbrev sXB : Memref sig .scVector .vmem S8x512 .i32 := Memref.whole cc1_scratch2
abbrev sOA : Memref sig .scVector .vmem S8x8x512 .f32 := Memref.whole cc1_scratch3
abbrev sOB : Memref sig .scVector .vmem S8x8x512 .f32 := Memref.whole cc1_scratch4

/-- The SparseCore and the subcore of the task at `L`. -/
abbrev cV (L : grid1.Coords) : Fin τ.nSC := ⟨(L 0).val, (L 0).isLt⟩
abbrev jV (L : grid1.Coords) : Fin τ.nSub := ⟨(L 1).val, (L 1).isLt⟩
/-- The thread of the task at `L` on device `d`. -/
abbrev thr (d : Dev nD) (L : grid1.Coords) : Thread nD τ := V d (cV L) (jV L)

/-- The transposed tokens, the table and the result, as locations of device `d`. -/
abbrev xLoc (d : Dev nD) : Loc nD τ sig := (SparseCore.T d).loc main_v5
abbrev tLoc (d : Dev nD) : Loc nD τ sig := (SparseCore.T d).loc main_v4
abbrev oLoc (d : Dev nD) : Loc nD τ sig := (SparseCore.T d).loc main_v6

end Cert.Proof.Lookup

end

end
-- ==== Proof.Value.lean ====
/-
  What one chunk of the lookup must hold, and how one store of sixteen lanes brings a buffer nearer to it.
-/
module

public import proofs.«01_k».proof.Proof.Base

@[expose] public section

noncomputable section

namespace Cert.Proof.Lookup

open Cert.KernelIdeal Cert.KernelIdeal.Gen
open Idealize.ShloMosaic

/-- An index of a shape of one, two or three axes, by its coordinates. -/
def at1 {n : ℕ} (a : Fin n) : (⟨1, ![n]⟩ : Shape).Idx := fun | 0 => a
def at2 {n m : ℕ} (a : Fin n) (b : Fin m) : (⟨2, ![n, m]⟩ : Shape).Idx := fun | 0 => a | 1 => b
def at3 {n m l : ℕ} (a : Fin n) (b : Fin m) (c : Fin l) : (⟨3, ![n, m, l]⟩ : Shape).Idx := fun | 0 => a | 1 => b | 2 => c

theorem at1_eta {n : ℕ} (x : (⟨1, ![n]⟩ : Shape).Idx) : at1 (x 0) = x := funext fun | 0 => rfl
theorem at2_eta {n m : ℕ} (x : (⟨2, ![n, m]⟩ : Shape).Idx) : at2 (x 0) (x 1) = x := funext fun | 0 => rfl | 1 => rfl
theorem at3_eta {n m l : ℕ} (x : (⟨3, ![n, m, l]⟩ : Shape).Idx) : at3 (x 0) (x 1) (x 2) = x := funext fun | 0 => rfl | 1 => rfl | 2 => rfl

/-- The table's element for token `x` and class `v`: the table is laid out a class after another, eight tokens each. -/
def pick {α : Type} (tb : S64.Idx → α) (x : BitVec 32) (v : ℕ) : α := tb (at1 ⟨(x.toNat + 8 * v) % 64, Nat.mod_lt _ (by decide)⟩)

/-- What a chunk's buffer must hold at `y`: the table's element for the token at position `y 0`, row `y 2`, and class `y 1`. -/
def tgt {α : Type} (xc : S8x512.Idx → BitVec 32) (tb : S64.Idx → α) (y : S8x8x512.Idx) : α := pick tb (xc (at2 (y 0) (y 2))) (y 1).val

/-- The chunk's buffer holds its target after `n` stores: the `j`-th store is of class `j % 8` in the group `j / 8` of sixteen rows. -/
def Done {α : Type} (xc : S8x512.Idx → BitVec 32) (tb : S64.Idx → α) (n : ℕ) (g : S8x8x512.Idx → α) : Prop :=
  ∀ y : S8x8x512.Idx, ((y 0).val * 32 + (y 2).val / 16) * 8 + (y 1).val < n → g y = tgt xc tb y

theorem Done.zero {α : Type} (xc : S8x512.Idx → BitVec 32) (tb : S64.Idx → α) (g : S8x8x512.Idx → α) : Done xc tb 0 g :=
  fun _ h => absurd h (Nat.not_lt_zero _)

/-- After all the stores the buffer holds its target everywhere. -/
theorem Done.all {α : Type} {xc : S8x512.Idx → BitVec 32} {tb : S64.Idx → α} {g : S8x8x512.Idx → α} (h : Done xc tb 2048 g) : g = tgt xc tb :=
  funext fun y => h y (by
    have h0 : (y 0).val < 8 := (y 0).isLt
    have h1 : (y 1).val < 8 := (y 1).isLt
    have h2 : (y 2).val < 512 := (y 2).isLt
    omega)

theorem cast_lane {α : Type} (v : S16.Idx → α) (x : S1x1x16.Idx) : shapeCast S1x1x16 v shapeCasts_S16_S1x1x16 x = v (at1 (x 2)) := by
  unfold shapeCast
  refine congrArg v (Shape.reshapeEquiv_eq_of_rowMajor _ ?_)
  rw [Shape.rowMajor_val_one, Shape.rowMajor_val_three]
  have h0 : (x 0).val = 0 := by have : (x 0).val < 1 := (x 0).isLt; omega
  have h1 : (x 1).val = 0 := by have : (x 1).val < 1 := (x 1).isLt; omega
  rw [h0, h1]; simp [at1]

theorem cast_row {α : Type} (v : S1x16.Idx → α) (x : S16.Idx) : shapeCast S16 v shapeCasts_S1x16_S16 x = v (at2 0 (x 0)) := by
  unfold shapeCast
  refine congrArg v (Shape.reshapeEquiv_eq_of_rowMajor _ ?_)
  rw [Shape.rowMajor_val_one, Shape.rowMajor_val_two]
  simp [at2]

/-- One store of sixteen lanes: class `v` of group `k`, whose tokens are `w`, brings the buffer from `8 k + v` stores to one more. -/
theorem Done.step {F : FTy → Type} {vw : View sig .scVector .vmem S8x8x512 .f32} {f : vw.ty.Contents (Elt F)}
    {xc : S8x512.Idx → BitVec 32} {tb : S64.Idx → Elt F .f32} {k v : ℕ} (hk : k < 256) (hv : v < 8)
    {off : Fin 3 → ℕ} (inb : ∀ a, off a + S1x1x16.size a ≤ S8x8x512.size a) (hoff : off = ![k / 32, v, 16 * (k % 32)])
    {w : S16.Idx → Elt F .f32}
    (hw : ∀ j : Fin 16, w (at1 j) = pick tb (xc (at2 ⟨k / 32, by omega⟩ ⟨16 * (k % 32) + j.val, by omega⟩)) v)
    (h : Done xc tb (8 * k + v) (vw.read (Elt F) f)) :
    Done xc tb (8 * k + v + 1)
      (vw.read (Elt F) ((vw.slice (Rect.unit (s := S8x8x512) off S1x1x16.size inb)).write (Elt F) f (shapeCast S1x1x16 w shapeCasts_S16_S1x1x16) Finset.univ)) := by
  intro y hy
  have h0 : (y 0).val < 8 := (y 0).isLt
  have h1 : (y 1).val < 8 := (y 1).isLt
  have h2 : (y 2).val < 512 := (y 2).isLt
  rw [← View.writes_singleton, View.read_writes_cons_unit vw f inb _ [] y hoff]
  split
  · rename_i hin
    have e0 : k / 32 ≤ (y 0).val ∧ (y 0).val < k / 32 + 1 := hin 0
    have e1 : v ≤ (y 1).val ∧ (y 1).val < v + 1 := hin 1
    have e2 : 16 * (k % 32) ≤ (y 2).val ∧ (y 2).val < 16 * (k % 32) + 16 := hin 2
    rw [cast_lane]
    refine (hw ⟨(y 2).val - 16 * (k % 32), by omega⟩).trans ?_
    unfold tgt
    have ev : (y 1).val = v := by omega
    rw [ev]
    refine congrArg (fun p => pick tb (xc p) v) (funext fun | 0 => Fin.ext ?_ | 1 => Fin.ext ?_)
    · show k / 32 = (y 0).val; omega
    · show 16 * (k % 32) + ((y 2).val - 16 * (k % 32)) = (y 2).val; omega
  · rename_i hin
    refine h y ?_
    by_contra hlt
    refine hin fun | 0 => ?_ | 1 => ?_ | 2 => ?_
    · show k / 32 ≤ (y 0).val ∧ (y 0).val < k / 32 + 1; omega
    · show v ≤ (y 1).val ∧ (y 1).val < v + 1; omega
    · show 16 * (k % 32) ≤ (y 2).val ∧ (y 2).val < 16 * (k % 32) + 16; omega

end Cert.Proof.Lookup

end

end
-- ==== Proof.Trip.lean ====
/-
  One trip of a chunk's loop: sixteen tokens loaded, then eight times a gather out of the table and a store of its lanes.
  The five loops of the kernel run this one trip, on one buffer or the other.
-/
module

public import proofs.«01_k».proof.Proof.Value

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The trip as one program over two buffers -/

/-- The words a gather of class `v` reads at: the tokens `w` displaced by `n` (which is `8 v`). -/
abbrev displaced (w : IVec S16 32) (n : BitVec 32) : IVec S16 32 := addi w (broadcast S16 n)

/-- The programs of the task at `L`. -/
abbrev Pg (F : FTy → Type) (L : grid1.Coords) (α : Type) : Type _ := Prog (TpuEff nD τ sig (Elt F) Λ₀ (.scVector ((L 0).castLE hcore1) ((L 1).castLE hsub1))) α

section Programs
variable (L : grid1.Coords)

/-- The gather of one class and the store of its lanes, then `rest`. -/
def vstep (a5 : Memref sig .scVector .vmem S64 .f32) (a8 : Memref sig .scVector .vmem S8x8x512 .f32) (w : IVec S16 32) (n : BitVec 32)
    (off : Fin 3 → ℕ) (inb : ∀ a, off a + S1x1x16.size a ≤ S8x8x512.size a) (rest : Pg F L Unit) : Pg F L Unit :=
  .op (.assume (k1_chk1 (displaced w n)) (k1_chk1.dec (displaced w n))) fun hw =>
  (SparseCore.vectorLoadIdx a5 ![displaced w n] (k1_idx1_inb (displaced w n) hw.down) (View.loads_vmem h_S64)).bind fun (v : Vec F S16 .f32) =>
  .op (.load a8 (Rect.unit (s := S8x8x512) off S1x1x16.size inb).toLoadRect (View.loadsAt_vmem h_S1x1x16)) fun _ =>
  .op (.store a8 (Rect.unit (s := S8x8x512) off S1x1x16.size inb) (shapeCast S1x1x16 v shapeCasts_S16_S1x1x16) Finset.univ
    (View.stores_vmem_bits_univ h_S1x1x16 rfl) (.inl rfl)) fun _ => rest

/-- One trip on the token buffer `a6` and the result buffer `a8`. -/
def trip (a5 : Memref sig .scVector .vmem S64 .f32) (a6 : Memref sig .scVector .vmem S8x512 .i32) (a8 : Memref sig .scVector .vmem S8x8x512 .f32)
    (k : Fin k1_t1_loop.trips) : Pg F L Unit :=
  .op (.load a6 (Rect.unit (s := S8x512) (k1_off3 k) S1x16.size (k1_off3_inb k)).toLoadRect (View.loadsAt_vmem h_S1x16)) fun (ld : Vec F S1x16 .i32) =>
  vstep L a5 a8 (shapeCast S16 ld shapeCasts_S1x16_S16) 0#32 (k1_off4 k) (k1_off4_inb k) <|
  vstep L a5 a8 (shapeCast S16 ld shapeCasts_S1x16_S16) 8#32 (k1_off5 k) (k1_off5_inb k) <|
  vstep L a5 a8 (shapeCast S16 ld shapeCasts_S1x16_S16) 16#32 (k1_off6 k) (k1_off6_inb k) <|
  vstep L a5 a8 (shapeCast S16 ld shapeCasts_S1x16_S16) 24#32 (k1_off7 k) (k1_off7_inb k) <|
  vstep L a5 a8 (shapeCast S16 ld shapeCasts_S1x16_S16) 32#32 (k1_off8 k) (k1_off8_inb k) <|
  vstep L a5 a8 (shapeCast S16 ld shapeCasts_S1x16_S16) 40#32 (k1_off9 k) (k1_off9_inb k) <|
  vstep L a5 a8 (shapeCast S16 ld shapeCasts_S1x16_S16) 48#32 (k1_off10 k) (k1_off10_inb k) <|
  vstep L a5 a8 (shapeCast S16 ld shapeCasts_S1x16_S16) 56#32 (k1_off11 k) (k1_off11_inb k) <|
  .ret ()

variable (arg2 : Memref sig .scVector .hbm S200x16384 .i32) (harg2 : arg2.IsWhole) (arg3 : Memref sig .scVector .hbm S64 .f32) (harg3 : arg3.IsWhole)
  (arg4 : Memref sig .scVector .hbm S200x8x16384 .f32) (harg4 : arg4.IsWhole) (arg5 : Memref sig .scVector .vmem S64 .f32) (harg5 : arg5.IsWhole)
  (arg6 : Memref sig .scVector .vmem S8x512 .i32) (harg6 : arg6.IsWhole) (arg7 : Memref sig .scVector .vmem S8x512 .i32) (harg7 : arg7.IsWhole)
  (arg8 : Memref sig .scVector .vmem S8x8x512 .f32) (harg8 : arg8.IsWhole) (arg9 : Memref sig .scVector .vmem S8x8x512 .f32) (harg9 : arg9.IsWhole)
  (arg10 arg11 arg12 arg13 v55_r0 : DmaSems sig S_)

set_option maxRecDepth 65536 in
theorem t1_body_eq (k : Fin k1_t1_loop.trips) (u : Unit) :
    k1_t1_body (F := F) L arg2 harg2 arg3 harg3 arg4 harg4 arg5 harg5 arg6 harg6 arg7 harg7 arg8 harg8 arg9 harg9 arg10 arg11 arg12 arg13 v55_r0 k u
      = trip L arg5 arg6 arg8 k := rfl

set_option maxRecDepth 65536 in
theorem t2_body_eq (c : BitVec 32) (k : Fin k1_t2_loop.trips) (u : Unit) :
    k1_t2_body (F := F) L arg2 harg2 arg3 harg3 arg4 harg4 arg5 harg5 arg6 harg6 arg7 harg7 arg8 harg8 arg9 harg9 arg10 arg11 arg12 arg13 v55_r0 c k u
      = trip L arg5 arg7 arg9 k := rfl

set_option maxRecDepth 65536 in
theorem t4_body_eq (c c' : BitVec 32) (h : Fin k1_t3_loop.trips) (k : Fin k1_t4_loop.trips) (u : Unit) :
    k1_t4_body (F := F) L arg2 harg2 arg3 harg3 arg4 harg4 arg5 harg5 arg6 harg6 arg7 harg7 arg8 harg8 arg9 harg9 arg10 arg11 arg12 arg13 v55_r0 c c' h k u
      = trip L arg5 arg6 arg8 k := rfl

set_option maxRecDepth 65536 in
theorem t5_body_eq (c c' : BitVec 32) (h : Fin k1_t3_loop.trips) (k : Fin k1_t5_loop.trips) (u : Unit) :
    k1_t5_body (F := F) L arg2 harg2 arg3 harg3 arg4 harg4 arg5 harg5 arg6 harg6 arg7 harg7 arg8 harg8 arg9 harg9 arg10 arg11 arg12 arg13 v55_r0 c c' h k u
      = trip L arg5 arg7 arg9 k := rfl

set_option maxRecDepth 65536 in
theorem t6_body_eq (c : BitVec 32) (k : Fin k1_t6_loop.trips) (u : Unit) :
    k1_t6_body (F := F) L arg2 harg2 arg3 harg3 arg4 harg4 arg5 harg5 arg6 harg6 arg7 harg7 arg8 harg8 arg9 harg9 arg10 arg11 arg12 arg13 v55_r0 c k u
      = trip L arg5 arg6 arg8 k := rfl

end Programs

/-! ## What a trip does -/

/-- The sixteen tokens of group `k`. -/
def Lanes (xc : S8x512.Idx → BitVec 32) (k : ℕ) (hk : k < 256) (w : IVec S16 32) : Prop :=
  ∀ j : Fin 16, w (at1 j) = xc (at2 ⟨k / 32, by omega⟩ ⟨16 * (k % 32) + j.val, by omega⟩)

theorem displaced_toNat {x : BitVec 32} (hx : x.toNat < 8) {v : ℕ} (hv : v < 8) : (IntOp.addi x (BitVec.ofNat 32 (8 * v))).toNat = x.toNat + 8 * v := by
  show (x + BitVec.ofNat 32 (8 * v)).toNat = _
  rw [BitVec.toNat_add, BitVec.toNat_ofNat]; omega

theorem lanes_lt {xc : S8x512.Idx → BitVec 32} (hxc : ∀ p, (xc p).toNat < 8) {k : ℕ} {hk : k < 256} {w : IVec S16 32} (hw : Lanes xc k hk w)
    {v : ℕ} (hv : v < 8) (x : S16.Idx) : (displaced w (BitVec.ofNat 32 (8 * v)) x).toNat = (w x).toNat + 8 * v ∧ (w x).toNat < 8 := by
  have h8 : (w x).toNat < 8 := by
    rw [(congrArg w (at1_eta (n := 16) x)).symm.trans (hw (x 0))]; exact hxc _
  exact ⟨displaced_toNat h8 hv, h8⟩

theorem chk_lanes {xc : S8x512.Idx → BitVec 32} (hxc : ∀ p, (xc p).toNat < 8) {k : ℕ} {hk : k < 256} {w : IVec S16 32} (hw : Lanes xc k hk w)
    {v : ℕ} (hv : v < 8) : k1_chk1 (displaced w (BitVec.ofNat 32 (8 * v))) := by
  intro a x
  obtain rfl : a = 0 := Subsingleton.elim _ _
  show (displaced w (BitVec.ofNat 32 (8 * v)) x).toNat < 64
  have := lanes_lt hxc hw hv x
  omega

section Runs
variable (d : Dev nD) (L : grid1.Coords)

/-- A buffer of results at some contents that hold their target up to `n` stores. -/
abbrev Upto (a8 : Memref sig .scVector .vmem S8x8x512 .f32) (xc : S8x512.Idx → BitVec 32) (tb : S64.Idx → Elt F .f32) (n : ℕ) : sProp 𝕄 :=
  iprop(∃ fo, ⌜Done xc tb n (a8.view.read (Elt F) fo)⌝ ∗ (a8.view.loc (thr d L) ↦{fullShare} fo))

theorem wp_vstep {Q : Unit → sProp 𝕄} {a8 : Memref sig .scVector .vmem S8x8x512 .f32} {ft : S64.Idx → Elt F .f32}
    {w : IVec S16 32} {v : ℕ} (hv : v < 8) {n : BitVec 32} (hn : n = BitVec.ofNat 32 (8 * v)) {xc : S8x512.Idx → BitVec 32} (hxc : ∀ p, (xc p).toNat < 8)
    {k : ℕ} (hk : k < 256) (hw : Lanes xc k hk w)
    {off : Fin 3 → ℕ} (inb : ∀ a, off a + S1x1x16.size a ≤ S8x8x512.size a) (hoff : off = ![k / 32, v, 16 * (k % 32)]) {rest : Pg F L Unit} :
    iprop(((sT : Memref sig .scVector .vmem S64 .f32).view.loc (thr d L) ↦{fullShare} ft) ∗ Upto d L a8 xc ft (8 * k + v)
        ∗ (((sT : Memref sig .scVector .vmem S64 .f32).view.loc (thr d L) ↦{fullShare} ft) ∗ Upto d L a8 xc ft (8 * k + v + 1)
            -∗ wp frame (wpE (defs₀ (F := F)) 𝒱₀ (thr d L) none) Set.univ rest Q))
      ⊢ wp frame (wpE (defs₀ (F := F)) 𝒱₀ (thr d L) none) Set.univ (vstep L sT a8 w n off inb rest) Q := by
  subst hn
  unfold vstep
  have hc := chk_lanes hxc hw hv
  rw [wp_assume_of _ _ _ _ hc]
  iintro ⟨Ht, ⟨%fo, %hdone, Ho⟩, Hk⟩
  iapply (SparseCore.wp_vectorLoadIdx 𝒱₀ (thr d L) none Set.univ (base := (sT : Memref sig .scVector .vmem S64 .f32)) (S := Finset.univ)
    (q := fullShare) (f := ft) (Finset.subset_univ _)) $$ [Ht]
  · iexact Ht
  iintro Ht
  iapply (wp_load 𝒱₀ (thr d L) none Set.univ (m := a8) (S := Finset.univ) (Finset.subset_univ _)) $$ [Ho]
  · iexact Ho
  iintro Ho
  iapply (wp_store 𝒱₀ (thr d L) none Set.univ (m := a8) (r := Rect.unit (s := S8x8x512) off S1x1x16.size inb) (Mk := Finset.univ) (S := Finset.univ) (Finset.subset_univ _)) $$ [Ho]
  · iexact Ho
  iintro Ho
  iapply Hk
  isplitl [Ht]; · iexact Ht
  iexists _
  isplitr
  rotate_left
  · iexact Ho
  · ipureintro
    refine hdone.step hk hv inb hoff fun j => ?_
    unfold pick loadIdx
    refine (congrFun (Memref.read_access_whole (Elt F) cc1_scratch0 ft) _).trans ?_
    refine congrArg ft (funext fun | 0 => Fin.ext ?_)
    have := lanes_lt hxc hw hv (at1 j)
    show (displaced w (BitVec.ofNat 32 (8 * v)) (at1 j)).toNat = _
    rw [← hw j]
    show _ = ((w (at1 j)).toNat + 8 * v) % 64
    omega

omit [FloatOps F] in
theorem off3_eq : ∀ k : Fin k1_t1_loop.trips, k1_off3 k = ![k.val / 32, 16 * (k.val % 32)] := by decide +kernel
omit [FloatOps F] in
theorem off4_eq : ∀ k : Fin k1_t1_loop.trips, k1_off4 k = ![k.val / 32, 0, 16 * (k.val % 32)] := by decide +kernel
omit [FloatOps F] in
theorem off5_eq : ∀ k : Fin k1_t1_loop.trips, k1_off5 k = ![k.val / 32, 1, 16 * (k.val % 32)] := by decide +kernel
omit [FloatOps F] in
theorem off6_eq : ∀ k : Fin k1_t1_loop.trips, k1_off6 k = ![k.val / 32, 2, 16 * (k.val % 32)] := by decide +kernel
omit [FloatOps F] in
theorem off7_eq : ∀ k : Fin k1_t1_loop.trips, k1_off7 k = ![k.val / 32, 3, 16 * (k.val % 32)] := by decide +kernel
omit [FloatOps F] in
theorem off8_eq : ∀ k : Fin k1_t1_loop.trips, k1_off8 k = ![k.val / 32, 4, 16 * (k.val % 32)] := by decide +kernel
omit [FloatOps F] in
theorem off9_eq : ∀ k : Fin k1_t1_loop.trips, k1_off9 k = ![k.val / 32, 5, 16 * (k.val % 32)] := by decide +kernel
omit [FloatOps F] in
theorem off10_eq : ∀ k : Fin k1_t1_loop.trips, k1_off10 k = ![k.val / 32, 6, 16 * (k.val % 32)] := by decide +kernel
omit [FloatOps F] in
theorem off11_eq : ∀ k : Fin k1_t1_loop.trips, k1_off11 k = ![k.val / 32, 7, 16 * (k.val % 32)] := by decide +kernel

omit [FloatOps F] in
/-- The tokens a trip loads are those of its group. -/
theorem lanes_load {a6 : Memref sig .scVector .vmem S8x512 .i32} {fx : Buf (Elt F) (a6.view.loc (thr d L))} (k : Fin k1_t1_loop.trips) (hk : k.val < 256) :
    Lanes (a6.view.read (Elt F) fx) k.val hk
      (shapeCast S16 (a6.view.readAt (Elt F) (Rect.unit (s := S8x512) (k1_off3 k) S1x16.size (k1_off3_inb k)).toLoadRect fx) shapeCasts_S1x16_S16) := by
  intro j
  rw [cast_row, View.readAt_apply]
  refine congrArg (a6.view.read (Elt F) fx) (funext fun | 0 => Fin.ext ?_ | 1 => Fin.ext ?_)
  · rw [LoadRect.idx_apply]
    show k1_off3 k 0 + 1 * 0 = k.val / 32
    rw [off3_eq]; rfl
  · rw [LoadRect.idx_apply]
    show k1_off3 k 1 + 1 * j.val = 16 * (k.val % 32) + j.val
    rw [off3_eq]; simp

/-- One trip: from the buffer of results done up to group `k` to it done with group `k`. -/
theorem wp_trip {a6 : Memref sig .scVector .vmem S8x512 .i32} {a8 : Memref sig .scVector .vmem S8x8x512 .f32} {ft : S64.Idx → Elt F .f32}
    {fx : Buf (Elt F) (a6.view.loc (thr d L))} (hxc : ∀ p, (a6.view.read (Elt F) fx p).toNat < 8) (k : Fin k1_t1_loop.trips) :
    iprop(((sT : Memref sig .scVector .vmem S64 .f32).view.loc (thr d L) ↦{fullShare} ft) ∗ (a6.view.loc (thr d L) ↦{fullShare} fx)
        ∗ Upto d L a8 (a6.view.read (Elt F) fx) ft (8 * k.val))
      ⊢ wp frame (wpE (defs₀ (F := F)) 𝒱₀ (thr d L) none) Set.univ (trip L sT a6 a8 k)
          fun _ => iprop(((sT : Memref sig .scVector .vmem S64 .f32).view.loc (thr d L) ↦{fullShare} ft) ∗ (a6.view.loc (thr d L) ↦{fullShare} fx)
            ∗ Upto d L a8 (a6.view.read (Elt F) fx) ft (8 * (k.val + 1))) := by
  have hk : k.val < 256 := k.isLt
  have hw := lanes_load (F := F) d L (a6 := a6) (fx := fx) k hk
  unfold trip
  iintro ⟨Ht, Hx, Ho⟩
  iapply (wp_load 𝒱₀ (thr d L) none Set.univ (m := a6) (S := Finset.univ) (Finset.subset_univ _)) $$ [Hx]
  · iexact Hx
  iintro Hx
  iapply (wp_vstep d L (v := 0) (by decide) rfl hxc hk hw _ (off4_eq k))
  isplitl [Ht]; · iexact Ht
  isplitl [Ho]; · iexact Ho
  iintro ⟨Ht, Ho⟩
  iapply (wp_vstep d L (v := 1) (by decide) rfl hxc hk hw _ (off5_eq k))
  isplitl [Ht]; · iexact Ht
  isplitl [Ho]; · iexact Ho
  iintro ⟨Ht, Ho⟩
  iapply (wp_vstep d L (v := 2) (by decide) rfl hxc hk hw _ (off6_eq k))
  isplitl [Ht]; · iexact Ht
  isplitl [Ho]; · iexact Ho
  iintro ⟨Ht, Ho⟩
  iapply (wp_vstep d L (v := 3) (by decide) rfl hxc hk hw _ (off7_eq k))
  isplitl [Ht]; · iexact Ht
  isplitl [Ho]; · iexact Ho
  iintro ⟨Ht, Ho⟩
  iapply (wp_vstep d L (v := 4) (by decide) rfl hxc hk hw _ (off8_eq k))
  isplitl [Ht]; · iexact Ht
  isplitl [Ho]; · iexact Ho
  iintro ⟨Ht, Ho⟩
  iapply (wp_vstep d L (v := 5) (by decide) rfl hxc hk hw _ (off9_eq k))
  isplitl [Ht]; · iexact Ht
  isplitl [Ho]; · iexact Ho
  iintro ⟨Ht, Ho⟩
  iapply (wp_vstep d L (v := 6) (by decide) rfl hxc hk hw _ (off10_eq k))
  isplitl [Ht]; · iexact Ht
  isplitl [Ho]; · iexact Ho
  iintro ⟨Ht, Ho⟩
  iapply (wp_vstep d L (v := 7) (by decide) rfl hxc hk hw _ (off11_eq k))
  isplitl [Ht]; · iexact Ht
  isplitl [Ho]; · iexact Ho
  iintro ⟨Ht, Ho⟩
  rw [wp_ret]
  imodintro
  isplitl [Ht]; · iexact Ht
  isplitl [Hx]; · iexact Hx
  iexact Ho

/-- The 256 trips of one chunk. -/
abbrev chunkLoop (a6 : Memref sig .scVector .vmem S8x512 .i32) (a8 : Memref sig .scVector .vmem S8x8x512 .f32) : Pg F L Unit :=
  Scf.Loop.for k1_t1_loop k1_t1_ok ⟨⟩ fun k _ => trip L sT a6 a8 k

/-- The chunk's loop leaves the buffer of results at its target. -/
theorem wp_chunkLoop {a6 : Memref sig .scVector .vmem S8x512 .i32} {a8 : Memref sig .scVector .vmem S8x8x512 .f32} {ft : S64.Idx → Elt F .f32}
    {fx : Buf (Elt F) (a6.view.loc (thr d L))} (hxc : ∀ p, (a6.view.read (Elt F) fx p).toNat < 8) {fo : Buf (Elt F) (a8.view.loc (thr d L))}
    {Q : Unit → sProp 𝕄} :
    iprop(((sT : Memref sig .scVector .vmem S64 .f32).view.loc (thr d L) ↦{fullShare} ft) ∗ (a6.view.loc (thr d L) ↦{fullShare} fx)
        ∗ (a8.view.loc (thr d L) ↦{fullShare} fo)
        ∗ (∀ fo', ⌜a8.view.read (Elt F) fo' = tgt (a6.view.read (Elt F) fx) ft⌝ -∗ ((sT : Memref sig .scVector .vmem S64 .f32).view.loc (thr d L) ↦{fullShare} ft)
            -∗ (a6.view.loc (thr d L) ↦{fullShare} fx) -∗ (a8.view.loc (thr d L) ↦{fullShare} fo') -∗ Q ()))
      ⊢ wp frame (wpE (defs₀ (F := F)) 𝒱₀ (thr d L) none) Set.univ (chunkLoop L a6 a8) Q := by
  iintro ⟨Ht, Hx, Ho, HQ⟩
  iapply (Scf.wp_for (I := fun k _ => iprop(((sT : Memref sig .scVector .vmem S64 .f32).view.loc (thr d L) ↦{fullShare} ft)
      ∗ (a6.view.loc (thr d L) ↦{fullShare} fx) ∗ Upto d L a8 (a6.view.read (Elt F) fx) ft (8 * k))) (hbody := fun k _ => wp_trip d L hxc k))
  isplitr [HQ]
  · isplitl [Ht]; · iexact Ht
    isplitl [Hx]; · iexact Hx
    iexists fo
    isplitr; · ipureintro; exact Done.zero _ _ _
    iexact Ho
  · iintro %acc ⟨Ht, Hx, %fo', %hd, Ho⟩
    iapply HQ $$ [] [Ht] [Hx] [Ho]
    · ipureintro; exact hd.all
    · iexact Ht
    · iexact Hx
    · iexact Ho

end Runs

end Cert.Proof.Lookup

end

end
-- ==== Proof.Steps.lean ====
/-
  The copies of one task, each started and each awaited as one step: the fetch of a chunk of tokens into a buffer, the
  write of a buffer of results to its chunk of the output, and the fetch of the table.
-/
module

public import proofs.«01_k».proof.Proof.Trip
public import Idealize.ShloMosaic.Lib.Transfers

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Where a task works -/

/-- The number of the task at `L`, and the first column that it works on. -/
abbrev wid (L : grid1.Coords) : ℕ := 2 * (L 1).val + (L 0).val
abbrev col (L : grid1.Coords) : ℕ := 1024 * (L 1).val + 512 * (L 0).val

omit [FloatOps F] in
theorem col_eq (L : grid1.Coords) : col L = 512 * wid L := by unfold col wid; omega
omit [FloatOps F] in
theorem wid_lt (L : grid1.Coords) : wid L < 32 := by
  have h0 : (L 0).val < 2 := (L 0).isLt
  have h1 : (L 1).val < 16 := (L 1).isLt
  unfold wid; omega

/-- Chunk `c` of the task's tokens: rows `8 c … 8 c + 7` of the transposed tokens, at its 512 columns. -/
def xch (X : S200x16384.Idx → BitVec 32) (L : grid1.Coords) (c : ℕ) : S8x512.Idx → BitVec 32 := fun y =>
  X (at2 (n := 200) (m := 16384) ⟨(8 * c + (y 0).val) % 200, Nat.mod_lt _ (by decide)⟩ ⟨(col L + (y 1).val) % 16384, Nat.mod_lt _ (by decide)⟩)

/-- The whole result: entry `(l, v, b)` is the table at the token `(l, b)` displaced by `8 v`. -/
def GT (X : S200x16384.Idx → BitVec 32) (tb : S64.Idx → Elt F .f32) : S200x8x16384.Idx → Elt F .f32 := fun z =>
  pick tb (X (at2 (n := 200) (m := 16384) (z 0) (z 2))) (z 1).val

/-- The chunks `lo … hi - 1` of the task's columns of the output. -/
def oRg (L : grid1.Coords) (lo hi : ℕ) : Finset S200x8x16384.Idx :=
  Finset.univ.filter fun z => lo ≤ (z 0).val / 8 ∧ (z 0).val / 8 < hi ∧ (z 2).val / 512 = wid L

omit [FloatOps F] in
theorem mem_oRg {L : grid1.Coords} {lo hi : ℕ} {z : S200x8x16384.Idx} :
    z ∈ oRg L lo hi ↔ lo ≤ (z 0).val / 8 ∧ (z 0).val / 8 < hi ∧ (z 2).val / 512 = wid L := by
  unfold oRg; rw [Finset.mem_filter]; simp

omit [FloatOps F] in
theorem oRg_union (L : grid1.Coords) {lo mid hi : ℕ} (h1 : lo ≤ mid) (h2 : mid ≤ hi) : oRg L lo mid ∪ oRg L mid hi = oRg L lo hi := by
  ext z; rw [Finset.mem_union, mem_oRg, mem_oRg, mem_oRg]; omega
omit [FloatOps F] in
theorem oRg_disjoint (L : grid1.Coords) (lo mid hi : ℕ) : Disjoint (oRg L lo mid) (oRg L mid hi) := by
  rw [Finset.disjoint_left]; intro z; rw [mem_oRg, mem_oRg]; omega
omit [FloatOps F] in
theorem oRg_self (L : grid1.Coords) (n : ℕ) : oRg L n n = ∅ := by
  ext z; rw [mem_oRg]; simp; omega

/-- The slice of the tokens at an offset, and that of the output. -/
abbrev xSl (off : Fin 2 → ℕ) (inb : ∀ a, off a + S8x512.size a ≤ S200x16384.size a) : Memref sig .scVector .hbm S8x512 .i32 :=
  xV.slice (Rect.unit (s := S200x16384) off S8x512.size inb) (fun _ => rfl)
abbrev oSl (off : Fin 3 → ℕ) (inb : ∀ a, off a + S8x8x512.size a ≤ S200x8x16384.size a) : Memref sig .scVector .hbm S8x8x512 .f32 :=
  oV.slice (Rect.unit (s := S200x8x16384) off S8x8x512.size inb) (fun _ => rfl)

/-! ## The copies as programs -/

section Programs
variable (L : grid1.Coords)

/-- Start, and await, a fetch of tokens. -/
def fireX (a : Memref sig .scVector .vmem S8x512 .i32) (ha : a.IsWhole) (s : DmaSems sig S_) (off : Fin 2 → ℕ)
    (inb : ∀ a, off a + S8x512.size a ≤ S200x16384.size a) : Pg F L PUnit :=
  Prog.lift (.enqueueDma (xSl off inb) (.here a) (.dma s.sem) (View.wordExact_bits rfl) ha.wordExact ⟨Or.inl rfl, trivial⟩)
def waitX (a : Memref sig .scVector .vmem S8x512 .i32) (ha : a.IsWhole) (s : DmaSems sig S_) (off : Fin 2 → ℕ)
    (inb : ∀ a, off a + S8x512.size a ≤ S200x16384.size a) : Pg F L PUnit :=
  Prog.lift (.waitDma2 s.sem (xSl off inb) a (View.wordExact_bits rfl) ha.wordExact)
/-- Start, and await, a write of results. -/
def fireO (a : Memref sig .scVector .vmem S8x8x512 .f32) (ha : a.IsWhole) (s : DmaSems sig S_) (off : Fin 3 → ℕ)
    (inb : ∀ a, off a + S8x8x512.size a ≤ S200x8x16384.size a) : Pg F L PUnit :=
  Prog.lift (.enqueueDma a (.here (oSl off inb)) (.dma s.sem) ha.wordExact (View.wordExact_bits rfl) ⟨Or.inl rfl, trivial⟩)
def waitO (a : Memref sig .scVector .vmem S8x8x512 .f32) (ha : a.IsWhole) (s : DmaSems sig S_) (off : Fin 3 → ℕ)
    (inb : ∀ a, off a + S8x8x512.size a ≤ S200x8x16384.size a) : Pg F L PUnit :=
  Prog.lift (.waitDma2 s.sem a (oSl off inb) ha.wordExact (View.wordExact_bits rfl))
/-- Fetch the table and await it. -/
def fetchT (s : DmaSems sig S_) : Pg F L PUnit := do
  Prog.lift (.enqueueDma tV (.here sT) (.dma s.sem) (Memref.isWhole_whole _).wordExact (Memref.isWhole_whole _).wordExact ⟨Or.inl rfl, trivial⟩)
  Prog.lift (.waitDma2 s.sem tV sT (Memref.isWhole_whole _).wordExact (Memref.isWhole_whole _).wordExact)

end Programs

/-! ## Their runs -/

section Runs
variable (d : Dev nD) (L : grid1.Coords)

/-- The amounts that a fetch of tokens, a write of results and the fetch of the table are awaited by. -/
abbrev NX (a : Memref sig .scVector .vmem S8x512 .i32) : ℕ := a.view.dmaCredit
abbrev NO : ℕ := (oSl ![0, 0, 0] (by decide)).view.dmaCredit

/-- Buffer `a` holding chunk `c` of the tokens. -/
def XHas (a : Memref sig .scVector .vmem S8x512 .i32) (X : S200x16384.Idx → BitVec 32) (c : ℕ) : sProp 𝕄 :=
  iprop(∃ fx : Buf (Elt F) (a.view.loc (thr d L)), ⌜a.view.read (Elt F) fx = xch X L c⌝ ∗ (a.view.loc (thr d L) ↦{fullShare} fx))
/-- Buffer `a` holding anything. -/
def Any {s : Shape} {e : EltTy} (a : Memref sig .scVector .vmem s e) : sProp 𝕄 :=
  iprop(∃ f : Buf (Elt F) (a.view.loc (thr d L)), (a.view.loc (thr d L) ↦{fullShare} f))
/-- The share `q` of the tokens. -/
abbrev Xs (q : PosShare TreeShare) (X : S200x16384.Idx → BitVec 32) : sProp 𝕄 :=
  ((xV : Memref sig .scVector .hbm S200x16384 .i32).view.loc (thr d L) ↦{q} (X : Buf (Elt F) ((xV : Memref sig .scVector .hbm S200x16384 .i32).view.loc (thr d L))))
/-- The part `S` of the output, holding `g`. -/
abbrev Op (S : Finset S200x8x16384.Idx) (g : S200x8x16384.Idx → Elt F .f32) : sProp 𝕄 :=
  ((oV : Memref sig .scVector .hbm S200x8x16384 .f32).view.loc (thr d L) ↦[(S : Finset (Idx ((oV : Memref sig .scVector .hbm S200x8x16384 .f32).view.loc (thr d L))))]{fullShare}
    (g : Buf (Elt F) ((oV : Memref sig .scVector .hbm S200x8x16384 .f32).view.loc (thr d L))))
/-- What the task owes, the waits recorded beyond `W` all its own. -/
def Owe (O : CellTallies nD τ sig (HIx 1)) (W : Waits sig (HIx 1)) : sProp 𝕄 :=
  iprop(∃ W', ⌜∀ p ∈ W', p ∈ W ∨ p.2 = none⌝ ∗ owes (thr d L) O W')
/-- The levels' evidence. -/
abbrev Lv : sProp 𝕄 := levAts (K (F := F)).L (K (F := F)).lev

/-- The fetch of chunk `c` into `a` in flight, with the rest of the share it reads at. -/
def XFly (a : Memref sig .scVector .vmem S8x512 .i32) (s : DmaSems sig S_) (q : PosShare TreeShare) (X : S200x16384.Idx → BitVec 32) (c : ℕ) : sProp 𝕄 :=
  iprop(∃ S : Finset (Idx ((xV : Memref sig .scVector .hbm S200x16384 .i32).view.loc (thr d L))),
    Flight EC (thr d L) (.dma s.sem) none (NX a) iprop(XHas d L a X c ∗ ((xV : Memref sig .scVector .hbm S200x16384 .i32).view.loc (thr d L) ↦[S]{q} (X : Buf (Elt F) ((xV : Memref sig .scVector .hbm S200x16384 .i32).view.loc (thr d L)))))
    ∗ ((xV : Memref sig .scVector .hbm S200x16384 .i32).view.loc (thr d L) ↦[Finset.univ \ S]{q} (X : Buf (Elt F) ((xV : Memref sig .scVector .hbm S200x16384 .i32).view.loc (thr d L)))))
/-- The write of `a` to chunk `c` in flight: it delivers the chunk at `g`. -/
def OFly (a : Memref sig .scVector .vmem S8x8x512 .f32) (s : DmaSems sig S_) (g : S200x8x16384.Idx → Elt F .f32) (c : ℕ) : sProp 𝕄 :=
  Flight EC (thr d L) (.dma s.sem) none NO iprop(Op d L (oRg L c (c + 1)) g ∗ Any d L a)

omit [FloatOps F] in
/-- What a slice of the tokens reads is its chunk. -/
theorem xSl_read {off : Fin 2 → ℕ} (inb : ∀ a, off a + S8x512.size a ≤ S200x16384.size a) {c : ℕ} (hoff : off = ![8 * c, col L])
    (X : S200x16384.Idx → BitVec 32) :
    (xSl off inb).view.read (Elt F) (X : Buf (Elt F) ((xV : Memref sig .scVector .hbm S200x16384 .i32).view.loc (thr d L))) = xch X L c := by
  have i0 : 8 * c + 8 ≤ 200 := by have := inb 0; rw [hoff] at this; exact this
  have i1 : col L + 512 ≤ 16384 := by have := inb 1; rw [hoff] at this; exact this
  funext y
  have h0 : (y 0).val < 8 := (y 0).isLt
  have h1 : (y 1).val < 512 := (y 1).isLt
  show X ((Rect.unit (s := S200x16384) off S8x512.size inb).idx y) = _
  unfold xch
  refine congrArg X (funext fun | 0 => Fin.ext ?_ | 1 => Fin.ext ?_)
  · show off 0 + 1 * (y 0).val = (8 * c + (y 0).val) % 200
    rw [hoff, Nat.mod_eq_of_lt (by omega)]; show 8 * c + 1 * _ = _; omega
  · show off 1 + 1 * (y 1).val = (col L + (y 1).val) % 16384
    rw [hoff, Nat.mod_eq_of_lt (by omega)]; show col L + 1 * _ = _; omega

/-- Starting a fetch: from the buffer, the share and the semaphore at rest to the fetch in flight. -/
theorem wp_fireX {a : Memref sig .scVector .vmem S8x512 .i32} {ha : a.IsWhole} {s : DmaSems sig S_} {off : Fin 2 → ℕ}
    {inb : ∀ a, off a + S8x512.size a ≤ S200x16384.size a} (c : ℕ) (hoff : off = ![8 * c, col L])
    {q : PosShare TreeShare} {X : S200x16384.Idx → BitVec 32} {Q : PUnit → sProp 𝕄} :
    iprop(Any d L a ∗ Xs d L q X ∗ semVal (thr d L, SemLoc.dma s.sem) 0 ∗ (XFly d L a s q X c -∗ Q ⟨⟩))
      ⊢ wp frame (wpE (defs₀ (F := F)) 𝒱₀ (thr d L) none) Set.univ (fireX (F := F) L a ha s off inb) Q := by
  unfold fireX Any Prog.lift
  iintro ⟨⟨%f, Ha⟩, Hx, Hs, HQ⟩
  ihave Hx2 := (pointsTo_split_subset (Finset.subset_univ ((xSl off inb).view.set))).1 $$ Hx
  icases Hx2 with ⟨Hx, Hr⟩
  iapply (wp_dmaLocal EC 𝒱₀ (thr d L) none (src := xSl off inb) (dst := a) (q := q) (Sd := Finset.univ) none (NX a) rfl (View.dmaCredit_pos _ (by decide)) (Finset.subset_univ _)) $$ [Hx Ha Hs]
  · isplitl [Hx]; · iexact Hx
    isplitl [Ha]; · iexact Ha
    iexact Hs
  iintro Hf
  rw [wp_ret]
  imodintro
  iapply HQ
  unfold XFly
  iexists (xSl off inb).view.set
  isplitl [Hf]
  · iapply (Flight_mono (EC := EC) (c := thr d L) ?_) $$ Hf
    iintro ⟨Ha, Hx⟩
    isplitl [Ha]
    · unfold XHas
      iexists _
      isplitr
      swap; · iexact Ha
      ipureintro
      exact (View.read_write_univ _ _).trans (xSl_read L inb hoff X)
    · iexact Hx
  · iexact Hr

/-- Awaiting a fetch: the chunk is in the buffer, the share and the semaphore are back. -/
theorem wp_waitX {a : Memref sig .scVector .vmem S8x512 .i32} {ha : a.IsWhole} {s : DmaSems sig S_} {off : Fin 2 → ℕ}
    {inb : ∀ a, off a + S8x512.size a ≤ S200x16384.size a} (c : ℕ)
    {q : PosShare TreeShare} {X : S200x16384.Idx → BitVec 32} {O : CellTallies nD τ sig (HIx 1)} (hO : ∀ g, O g none = 0) {W : Waits sig (HIx 1)}
    {Q : PUnit → sProp 𝕄} :
    iprop(Lv ∗ XFly d L a s q X c ∗ Owe d L O W ∗ ((XHas d L a X c ∗ Xs d L q X ∗ semVal (thr d L, SemLoc.dma s.sem) 0 ∗ Owe d L O W) -∗ Q ⟨⟩))
      ⊢ wp frame (wpE (defs₀ (F := F)) 𝒱₀ (thr d L) none) Set.univ (waitX (F := F) L a ha s off inb) Q := by
  unfold waitX XFly Owe Prog.lift
  iintro ⟨#Hlv, ⟨%S, Hf, Hr⟩, ⟨%W', %hW, HO⟩, HQ⟩
  iapply (wp_waitLocalO EC 𝒱₀ (thr d L) none (srcw := xSl off inb) (dstw := a) none (N := NX a) rfl (O := O) (W := W')) $$ [Hf HO]
  · isplitl [Hf]; · iexact Hf
    isplitl [HO]; · iexact HO
    iapply ((K (F := F)).mayWait_none (SemLoc.dma s.sem) hO); iexact Hlv
  iintro ⟨⟨Ha, Hx⟩, Hs, HO⟩
  rw [wp_ret]
  imodintro
  iapply HQ
  isplitl [Ha]; · iexact Ha
  isplitl [Hx Hr]
  · iapply (pointsTo_split_subset (Finset.subset_univ S)).2
    isplitl [Hx]; · iexact Hx
    iexact Hr
  isplitl [Hs]; · iexact Hs
  iexists (insert (SemLoc.dma s.sem, none) W')
  isplitr
  · ipureintro; intro p hp
    rcases Finset.mem_insert.mp hp with rfl | hp
    · exact .inr rfl
    · exact hW p hp
  · iexact HO

omit [FloatOps F] in
/-- The elements of a slice of the output are its chunk's. -/
theorem oSl_set {off : Fin 3 → ℕ} (inb : ∀ a, off a + S8x8x512.size a ≤ S200x8x16384.size a) {c : ℕ} (hoff : off = ![8 * c, 0, col L]) :
    (oSl off inb).view.set = oRg L c (c + 1) := by
  subst hoff
  have i0 : 8 * c + 8 ≤ 200 := by exact inb 0
  have i2 : col L + 512 ≤ 16384 := by exact inb 2
  have hc := col_eq L
  ext z
  have z0 : (z 0).val < 200 := (z 0).isLt
  have z1 : (z 1).val < 8 := (z 1).isLt
  have z2 : (z 2).val < 16384 := (z 2).isLt
  rw [mem_oRg]
  show z ∈ Finset.univ.map _ ↔ _
  rw [Finset.mem_map]
  constructor
  · rintro ⟨y, -, rfl⟩
    have h0 : (y 0).val < 8 := (y 0).isLt
    have h2 : (y 2).val < 512 := (y 2).isLt
    show c ≤ (8 * c + 1 * (y 0).val) / 8 ∧ (8 * c + 1 * (y 0).val) / 8 < c + 1 ∧ (col L + 1 * (y 2).val) / 512 = wid L
    omega
  · rintro ⟨a, b, e⟩
    refine ⟨at3 (n := 8) (m := 8) (l := 512) ⟨(z 0).val - 8 * c, by omega⟩ (z 1) ⟨(z 2).val - col L, by omega⟩, Finset.mem_univ _, funext fun | 0 => Fin.ext ?_ | 1 => Fin.ext ?_ | 2 => Fin.ext ?_⟩
    · show 8 * c + 1 * ((z 0).val - 8 * c) = (z 0).val
      show 8 * c + 1 * ((z 0).val - 8 * c) = _; omega
    · show 0 + 1 * (z 1).val = (z 1).val
      show 0 + 1 * (z 1).val = _; omega
    · show col L + 1 * ((z 2).val - col L) = (z 2).val
      show col L + 1 * ((z 2).val - col L) = _; omega

omit [FloatOps F] in
/-- A chunk written with its target holds the result's entries. -/
theorem oSl_write {off : Fin 3 → ℕ} (inb : ∀ a, off a + S8x8x512.size a ≤ S200x8x16384.size a) {c : ℕ} (hoff : off = ![8 * c, 0, col L])
    (X : S200x16384.Idx → BitVec 32) (tb : S64.Idx → Elt F .f32) (fd : Buf (Elt F) ((oV : Memref sig .scVector .hbm S200x8x16384 .f32).view.loc (thr d L))) :
    ∀ z ∈ (oSl off inb).view.set, (oSl off inb).view.write (Elt F) fd (tgt (xch X L c) tb) Finset.univ z = GT X tb z := by
  subst hoff
  have i0 : 8 * c + 8 ≤ 200 := by exact inb 0
  have i2 : col L + 512 ≤ 16384 := by exact inb 2
  intro z hz
  obtain ⟨y, -, rfl⟩ := Finset.mem_map.mp hz
  have h0 : (y 0).val < 8 := (y 0).isLt
  have h1 : (y 1).val < 8 := (y 1).isLt
  have h2 : (y 2).val < 512 := (y 2).isLt
  refine (congrFun (View.read_write_univ (v := (oSl _ inb).view) (Val := Elt F) fd (tgt (xch X L c) tb)) y).trans ?_
  have e0 : ((oSl _ inb).view.emb y 0).val = 8 * c + (y 0).val := by
    show 8 * c + 1 * (y 0).val = _; show 8 * c + 1 * _ = _; omega
  have e1 : ((oSl _ inb).view.emb y 1).val = (y 1).val := by
    show 0 + 1 * (y 1).val = _; show 0 + 1 * _ = _; omega
  have e2 : ((oSl _ inb).view.emb y 2).val = col L + (y 2).val := by
    show col L + 1 * (y 2).val = _; show col L + 1 * _ = _; omega
  unfold tgt GT xch
  refine (congrArg (pick tb _) e1.symm).trans (congrArg (fun p => pick tb (X p) _) (funext fun | 0 => Fin.ext ?_ | 1 => Fin.ext ?_))
  · show (8 * c + (y 0).val) % 200 = ((oSl _ inb).view.emb y 0).val
    rw [e0, Nat.mod_eq_of_lt (by omega)]
  · show (col L + (y 2).val) % 16384 = ((oSl _ inb).view.emb y 2).val
    rw [e2, Nat.mod_eq_of_lt (by omega)]

/-- Starting a write: from the buffer at its target, the chunk and the semaphore at rest to the write in flight. -/
theorem wp_fireO {a : Memref sig .scVector .vmem S8x8x512 .f32} {ha : a.IsWhole} {s : DmaSems sig S_} {off : Fin 3 → ℕ}
    {inb : ∀ a, off a + S8x8x512.size a ≤ S200x8x16384.size a} (c : ℕ) (hoff : off = ![8 * c, 0, col L])
    {X : S200x16384.Idx → BitVec 32} {tb : S64.Idx → Elt F .f32} {fo : Buf (Elt F) (a.view.loc (thr d L))} (hfo : a.view.read (Elt F) fo = tgt (xch X L c) tb)
    {g : S200x8x16384.Idx → Elt F .f32} {Q : PUnit → sProp 𝕄} :
    iprop((a.view.loc (thr d L) ↦{fullShare} fo) ∗ Op d L (oRg L c (c + 1)) g ∗ semVal (thr d L, SemLoc.dma s.sem) 0 ∗ (OFly d L a s (GT X tb) c -∗ Q ⟨⟩))
      ⊢ wp frame (wpE (defs₀ (F := F)) 𝒱₀ (thr d L) none) Set.univ (fireO (F := F) L a ha s off inb) Q := by
  unfold fireO Prog.lift
  have hset := ha.set_eq_univ
  have hs := oSl_set L inb hoff
  iintro ⟨Ha, Ho, Hs, HQ⟩
  iapply (wp_dmaLocal EC 𝒱₀ (thr d L) none (src := a) (dst := oSl off inb) (q := fullShare) (Sd := (oSl off inb).view.set) none NO rfl (View.dmaCredit_pos _ (by decide)) (Finset.Subset.refl _)) $$ [Ho Ha Hs]
  · isplitl [Ha]; · rw [hset]; iexact Ha
    isplitl [Ho]; · rw [hs]; iexact Ho
    iexact Hs
  iintro Hf
  rw [wp_ret]
  imodintro
  iapply HQ
  unfold OFly
  iapply (Flight_mono (EC := EC) (c := thr d L) ?_) $$ Hf
  iintro ⟨Ho, Ha⟩
  isplitl [Ho]
  · iapply (Entails.of_eq ((pointsTo_congr (g := (GT X tb : Buf (Elt F) ((oSl off inb).view.loc (thr d L)))) ?_).trans ?_)) $$ Ho
    · intro z hz
      refine Eq.trans ?_ (oSl_write d L inb hoff X tb g z hz)
      rw [← hfo]
    · rw [hs]
  · unfold Any
    iexists fo
    rw [hset]; iexact Ha

/-- Awaiting a write: the chunk holds the result's entries, the buffer and the semaphore are back. -/
theorem wp_waitO {a : Memref sig .scVector .vmem S8x8x512 .f32} {ha : a.IsWhole} {s : DmaSems sig S_} {off : Fin 3 → ℕ}
    {inb : ∀ a, off a + S8x8x512.size a ≤ S200x8x16384.size a} (c : ℕ)
    {g : S200x8x16384.Idx → Elt F .f32} {O : CellTallies nD τ sig (HIx 1)} (hO : ∀ g, O g none = 0) {W : Waits sig (HIx 1)}
    {Q : PUnit → sProp 𝕄} :
    iprop(Lv ∗ OFly d L a s g c ∗ Owe d L O W ∗ ((Op d L (oRg L c (c + 1)) g ∗ Any d L a ∗ semVal (thr d L, SemLoc.dma s.sem) 0 ∗ Owe d L O W) -∗ Q ⟨⟩))
      ⊢ wp frame (wpE (defs₀ (F := F)) 𝒱₀ (thr d L) none) Set.univ (waitO (F := F) L a ha s off inb) Q := by
  unfold waitO OFly Owe Prog.lift
  iintro ⟨#Hlv, Hf, ⟨%W', %hW, HO⟩, HQ⟩
  iapply (wp_waitLocalO EC 𝒱₀ (thr d L) none (srcw := a) (dstw := oSl off inb) none (N := NO) rfl (O := O) (W := W')) $$ [Hf HO]
  · isplitl [Hf]; · iexact Hf
    isplitl [HO]; · iexact HO
    iapply ((K (F := F)).mayWait_none (SemLoc.dma s.sem) hO); iexact Hlv
  iintro ⟨⟨Ho, Ha⟩, Hs, HO⟩
  rw [wp_ret]
  imodintro
  iapply HQ
  isplitl [Ho]; · iexact Ho
  isplitl [Ha]; · iexact Ha
  isplitl [Hs]; · iexact Hs
  iexists (insert (SemLoc.dma s.sem, none) W')
  isplitr
  · ipureintro; intro p hp
    rcases Finset.mem_insert.mp hp with rfl | hp
    · exact .inr rfl
    · exact hW p hp
  · iexact HO

/-- The fetch of the table: the task's copy holds what the table held. -/
theorem wp_fetchT {s : DmaSems sig S_} {q : PosShare TreeShare} {tb : S64.Idx → Elt F .f32}
    {O : CellTallies nD τ sig (HIx 1)} (hO : ∀ g, O g none = 0) {W : Waits sig (HIx 1)} {Q : PUnit → sProp 𝕄} :
    iprop(Lv ∗ Any d L sT ∗ ((tV : Memref sig .scVector .hbm S64 .f32).view.loc (thr d L) ↦{q} tb) ∗ semVal (thr d L, SemLoc.dma s.sem) 0 ∗ Owe d L O W
        ∗ ((((sT : Memref sig .scVector .vmem S64 .f32).view.loc (thr d L) ↦{fullShare} tb) ∗ ((tV : Memref sig .scVector .hbm S64 .f32).view.loc (thr d L) ↦{q} tb)
            ∗ semVal (thr d L, SemLoc.dma s.sem) 0 ∗ Owe d L O W) -∗ Q ⟨⟩))
      ⊢ wp frame (wpE (defs₀ (F := F)) 𝒱₀ (thr d L) none) Set.univ (fetchT (F := F) L s) Q := by
  unfold fetchT Any Owe
  simp only [Prog.lift, Prog.bind_op, Prog.bind_ret]
  have hset : (tV : Memref sig .scVector .hbm S64 .f32).view.set = Finset.univ := View.set_whole _
  iintro ⟨#Hlv, ⟨%f, Ha⟩, Ht, Hs, ⟨%W', %hW, HO⟩, HQ⟩
  iapply (wp_dmaLocal EC 𝒱₀ (thr d L) none (src := tV) (dst := sT) (q := q) (Sd := Finset.univ) none (sT : Memref sig .scVector .vmem S64 .f32).view.dmaCredit rfl (View.dmaCredit_pos _ (by decide)) (Finset.subset_univ _)) $$ [Ht Ha Hs]
  · isplitl [Ht]; · rw [hset]; iexact Ht
    isplitl [Ha]; · iexact Ha
    iexact Hs
  iintro Hf
  iapply (wp_waitLocalO EC 𝒱₀ (thr d L) none (srcw := tV) (dstw := sT) none (N := (sT : Memref sig .scVector .vmem S64 .f32).view.dmaCredit) rfl (O := O) (W := W')) $$ [Hf HO]
  · isplitl [Hf]; · iexact Hf
    isplitl [HO]; · iexact HO
    iapply ((K (F := F)).mayWait_none (SemLoc.dma s.sem) hO); iexact Hlv
  iintro ⟨⟨Ha, Ht⟩, Hs, HO⟩
  rw [wp_ret]
  imodintro
  iapply HQ
  isplitl [Ha]
  · iapply (Entails.of_eq ?_) $$ Ha
    refine congrArg _ ?_
    exact View.write_whole_univ _ _ _
  isplitl [Ht]; · rw [hset]; iexact Ht
  isplitl [Hs]; · iexact Hs
  iexists (insert (SemLoc.dma s.sem, none) W')
  isplitr
  · ipureintro; intro p hp
    rcases Finset.mem_insert.mp hp with rfl | hp
    · exact .inr rfl
    · exact hW p hp
  · iexact HO

end Runs

end Cert.Proof.Lookup

end

end
-- ==== Proof.Body.lean ====
/-
  One task: its twenty-five chunks, two in flight each way, from its scratch and its shares to its columns of the output
  at the result.
-/
module

public import proofs.«01_k».proof.Proof.Steps

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task as a sequence of steps -/

omit [FloatOps F] in
theorem hXA : (sXA : Memref sig .scVector .vmem S8x512 .i32).IsWhole := Memref.isWhole_whole _
omit [FloatOps F] in
theorem hXB : (sXB : Memref sig .scVector .vmem S8x512 .i32).IsWhole := Memref.isWhole_whole _
omit [FloatOps F] in
theorem hOA : (sOA : Memref sig .scVector .vmem S8x8x512 .f32).IsWhole := Memref.isWhole_whole _
omit [FloatOps F] in
theorem hOB : (sOB : Memref sig .scVector .vmem S8x8x512 .f32).IsWhole := Memref.isWhole_whole _

section Programs
variable (L : grid1.Coords)

/-- The opening: the first two fetches, the table, the first chunk. -/
def prog12 : Pg F L (BitVec 32) := do
  fireX L sXA hXA cc1_scratch5 (k1_off1 L 0#32) (k1_off1_inb L 0)
  fireX L sXB hXB cc1_scratch6 (k1_off1 L 1#32) (k1_off1_inb L 1)
  fetchT L cc1_scoped0
  waitX L sXA hXA cc1_scratch5 (k1_off2 L) (k1_off2_inb L)
  chunkLoop L sXA sOA
  fireO L sOA hOA cc1_scratch7 (k1_off12 L 0#32) (k1_off12_inb L 0)
  fireX L sXA hXA cc1_scratch5 (k1_off13 L 0#32) (k1_off13_inb L 0)
  waitX L sXB hXB cc1_scratch6 (k1_off2 L) (k1_off2_inb L)
  pure 0#32

/-- A trip of the main loop, to the second of its two chunks. -/
def prog9 (k : Fin k1_t3_loop.trips) : Pg F L (Σ' (_ : BitVec 32), BitVec 32) := do
  waitO L sOA hOA cc1_scratch7 (k1_off23 L) (k1_off23_inb L)
  waitX L sXA hXA cc1_scratch5 (k1_off24 L) (k1_off24_inb L)
  chunkLoop L sXA sOA
  fireO L sOA hOA cc1_scratch7 (k1_off34 L k) (k1_off34_inb L k)
  fireX L sXA hXA cc1_scratch5 (k1_off35 L k) (k1_off35_inb L k)
  waitO L sOB hOB cc1_scratch8 (k1_off23 L) (k1_off23_inb L)
  waitX L sXB hXB cc1_scratch6 (k1_off24 L) (k1_off24_inb L)
  chunkLoop L sXB sOB
  pure ⟨Scalar.addi (Scalar.muli 2#32 (Scf.iv 1#32 1#32 k)) 1#32, 8#32⟩

/-- One trip of the main loop: two chunks. -/
def prog3 (k : Fin k1_t3_loop.trips) : Pg F L Unit := do
  let _ ← prog9 L k
  fireO L sOB hOB cc1_scratch8 (k1_off45 L k) (k1_off45_inb L k)
  fireX L sXB hXB cc1_scratch6 (k1_off46 L k) (k1_off46_inb L k)
  pure ⟨⟩

/-- The second chunk, the main loop, the last chunk. -/
def prog13 : Pg F L (Σ' (_ : BitVec 32), BitVec 32) := do
  chunkLoop L sXB sOB
  fireO L sOB hOB cc1_scratch8 (k1_off12 L 1#32) (k1_off12_inb L 1)
  fireX L sXB hXB cc1_scratch6 (k1_off13 L 1#32) (k1_off13_inb L 1)
  Scf.Loop.for k1_t3_loop k1_t3_ok ⟨⟩ fun k _ => prog3 L k
  waitO L sOA hOA cc1_scratch7 (k1_off47 L) (k1_off47_inb L)
  waitX L sXA hXA cc1_scratch5 (k1_off2 L) (k1_off2_inb L)
  chunkLoop L sXA sOA
  fireO L sOA hOA cc1_scratch7 (k1_off12 L 24#32) (k1_off12_inb L 2)
  pure ⟨Scalar.addi 24#32 2#32, 24#32⟩

/-- The task. -/
def progBody : Pg F L PUnit := do
  let _ ← prog12 L
  let _ ← prog13 L
  fireX L sXA hXA cc1_scratch5 (k1_off13 L 24#32) (k1_off13_inb L 2)
  waitO L sOA hOA cc1_scratch7 (k1_off47 L) (k1_off47_inb L)
  waitO L sOB hOB cc1_scratch8 (k1_off47 L) (k1_off47_inb L)
  waitX L sXA hXA cc1_scratch5 (k1_off2 L) (k1_off2_inb L)
  waitX L sXB hXB cc1_scratch6 (k1_off2 L) (k1_off2_inb L)
  pure ⟨⟩

set_option maxRecDepth 65536 in
theorem part12_eq : k1_part12 (F := F) L xV (Memref.isWhole_whole _) tV (Memref.isWhole_whole _) oV (Memref.isWhole_whole _) sT (Memref.isWhole_whole _)
    sXA (Memref.isWhole_whole _) sXB (Memref.isWhole_whole _) sOA (Memref.isWhole_whole _) sOB (Memref.isWhole_whole _)
    cc1_scratch5 cc1_scratch6 cc1_scratch7 cc1_scratch8 cc1_scoped0 = prog12 L := rfl

set_option maxRecDepth 65536 in
theorem part9_eq (k : Fin k1_t3_loop.trips) : k1_part9 (F := F) L xV (Memref.isWhole_whole _) tV (Memref.isWhole_whole _) oV (Memref.isWhole_whole _) sT (Memref.isWhole_whole _)
    sXA (Memref.isWhole_whole _) sXB (Memref.isWhole_whole _) sOA (Memref.isWhole_whole _) sOB (Memref.isWhole_whole _)
    cc1_scratch5 cc1_scratch6 cc1_scratch7 cc1_scratch8 cc1_scoped0 1#32 1#32 k = prog9 L k := rfl

set_option maxRecDepth 65536 in
theorem t3_body_eq (c : BitVec 32) (k : Fin k1_t3_loop.trips) (u : Unit) :
    k1_t3_body (F := F) L xV (Memref.isWhole_whole _) tV (Memref.isWhole_whole _) oV (Memref.isWhole_whole _) sT (Memref.isWhole_whole _)
      sXA (Memref.isWhole_whole _) sXB (Memref.isWhole_whole _) sOA (Memref.isWhole_whole _) sOB (Memref.isWhole_whole _)
      cc1_scratch5 cc1_scratch6 cc1_scratch7 cc1_scratch8 cc1_scoped0 c k u = prog3 L k := rfl

set_option maxRecDepth 65536 in
theorem part13_eq (c : BitVec 32) : k1_part13 (F := F) L xV (Memref.isWhole_whole _) tV (Memref.isWhole_whole _) oV (Memref.isWhole_whole _) sT (Memref.isWhole_whole _)
    sXA (Memref.isWhole_whole _) sXB (Memref.isWhole_whole _) sOA (Memref.isWhole_whole _) sOB (Memref.isWhole_whole _)
    cc1_scratch5 cc1_scratch6 cc1_scratch7 cc1_scratch8 cc1_scoped0 c = prog13 L := rfl

set_option maxRecDepth 65536 in
/-- The kernel's body at `L` is the sequence of steps. -/
theorem body_eq : cc1__sc_body (F := F) L xV (Memref.isWhole_whole _) tV (Memref.isWhole_whole _) oV (Memref.isWhole_whole _) sT (Memref.isWhole_whole _)
    sXA (Memref.isWhole_whole _) sXB (Memref.isWhole_whole _) sOA (Memref.isWhole_whole _) sOB (Memref.isWhole_whole _)
    cc1_scratch5 cc1_scratch6 cc1_scratch7 cc1_scratch8 cc1_scoped0 = progBody L := rfl

end Programs

/-! ## The offsets -/

omit [FloatOps F] in
theorem off1_0 (L : grid1.Coords) : k1_off1 L 0#32 = ![8 * 0, col L] := k1_off1_eq L 0
omit [FloatOps F] in
theorem off1_1 (L : grid1.Coords) : k1_off1 L 1#32 = ![8 * 1, col L] := k1_off1_eq L 1
omit [FloatOps F] in
theorem off12_0 : ∀ L : grid1.Coords, k1_off12 L 0#32 = ![8 * 0, 0, col L] := by decide +kernel
omit [FloatOps F] in
theorem off12_1 : ∀ L : grid1.Coords, k1_off12 L 1#32 = ![8 * 1, 0, col L] := by decide +kernel
omit [FloatOps F] in
theorem off12_24 : ∀ L : grid1.Coords, k1_off12 L 24#32 = ![8 * 24, 0, col L] := by decide +kernel
omit [FloatOps F] in
theorem off13_0 : ∀ L : grid1.Coords, k1_off13 L 0#32 = ![8 * 2, col L] := by decide +kernel
omit [FloatOps F] in
theorem off13_1 : ∀ L : grid1.Coords, k1_off13 L 1#32 = ![8 * 3, col L] := by decide +kernel
omit [FloatOps F] in
theorem off13_24 : ∀ L : grid1.Coords, k1_off13 L 24#32 = ![8 * 24, col L] := by decide +kernel
omit [FloatOps F] in
theorem off34 (L : grid1.Coords) (k : Fin k1_t3_loop.trips) : k1_off34 L k = ![8 * (2 * k.val + 2), 0, col L] := by
  rw [k1_off34_eq, show 16 * k.val + 16 = 8 * (2 * k.val + 2) by omega]
omit [FloatOps F] in
theorem off35 (L : grid1.Coords) (k : Fin k1_t3_loop.trips) : k1_off35 L k = ![8 * (2 * (k.val + 1) + 2), col L] := by
  rw [k1_off35_eq, show 16 * k.val + 32 = 8 * (2 * (k.val + 1) + 2) by omega]
omit [FloatOps F] in
theorem off45 (L : grid1.Coords) (k : Fin k1_t3_loop.trips) : k1_off45 L k = ![8 * (2 * k.val + 3), 0, col L] := by
  rw [k1_off45_eq, show 16 * k.val + 24 = 8 * (2 * k.val + 3) by omega]
omit [FloatOps F] in
theorem off46 (L : grid1.Coords) (k : Fin k1_t3_loop.trips) : k1_off46 L k = ![8 * min (2 * (k.val + 1) + 3) 24, col L] := by
  rw [k1_off46_eq, show 2 * k.val + 5 = 2 * (k.val + 1) + 3 by omega]

/-! ## The run -/

section Runs
variable (d : Dev nD) (L : grid1.Coords)

omit [FloatOps F] in
/-- A run of chunks splits at any of them. -/
theorem Op_split {lo mid hi : ℕ} (h1 : lo ≤ mid) (h2 : mid ≤ hi) (g : S200x8x16384.Idx → Elt F .f32) :
    (Op d L (oRg L lo hi) g : sProp 𝕄) ⊣⊢ iprop(Op d L (oRg L lo mid) g ∗ Op d L (oRg L mid hi) g) := by
  have h := pointsTo_union (nD := nD) (τ := τ) (sig := sig) (Ix := HIx 1) (Val := Elt F) (Name := ℕ) (U := UU) (Lvl := ℕ)
    (ℓ := (oV : Memref sig .scVector .hbm S200x8x16384 .f32).view.loc (thr d L)) (q := fullShare) (f := g) (oRg_disjoint L lo mid hi)
  rw [oRg_union L h1 h2] at h
  exact h

/-- The task's copy of the table. -/
abbrev Tb (tb : S64.Idx → Elt F .f32) : sProp 𝕄 := ((sT : Memref sig .scVector .vmem S64 .f32).view.loc (thr d L) ↦{fullShare} (tb : Buf (Elt F) ((sT : Memref sig .scVector .vmem S64 .f32).view.loc (thr d L))))
/-- Buffer `a` holding the results of chunk `c`. -/
def OHas (a : Memref sig .scVector .vmem S8x8x512 .f32) (X : S200x16384.Idx → BitVec 32) (tb : S64.Idx → Elt F .f32) (c : ℕ) : sProp 𝕄 :=
  iprop(∃ fo : Buf (Elt F) (a.view.loc (thr d L)), ⌜a.view.read (Elt F) fo = tgt (xch X L c) tb⌝ ∗ (a.view.loc (thr d L) ↦{fullShare} fo))

omit [FloatOps F] in
/-- The chunk forgotten. -/
theorem XHas_any {a : Memref sig .scVector .vmem S8x512 .i32} {X : S200x16384.Idx → BitVec 32} {c : ℕ} :
    (XHas (F := F) d L a X c : sProp 𝕄) ⊢ Any d L a := by
  unfold XHas Any
  iintro ⟨%f, -, H⟩
  iexists f; iexact H

/-- A chunk's loop, from the chunk of tokens to its results. -/
theorem wp_chunk {a6 : Memref sig .scVector .vmem S8x512 .i32} {a8 : Memref sig .scVector .vmem S8x8x512 .f32} {X : S200x16384.Idx → BitVec 32}
    (hX : ∀ p, (X p).toNat < 8) {tb : S64.Idx → Elt F .f32} (c : ℕ) {Q : Unit → sProp 𝕄} :
    iprop(Tb d L tb ∗ XHas d L a6 X c ∗ Any d L a8 ∗ ((Tb d L tb ∗ Any d L a6 ∗ OHas d L a8 X tb c) -∗ Q ⟨⟩))
      ⊢ wp frame (wpE (defs₀ (F := F)) 𝒱₀ (thr d L) none) Set.univ (chunkLoop (F := F) L a6 a8) Q := by
  unfold XHas Any OHas
  iintro ⟨Ht, ⟨%fx, %hfx, Hx⟩, ⟨%fo, Ho⟩, HQ⟩
  iapply (wp_chunkLoop d L (fx := fx) (fo := fo) (ft := tb) (fun p => by rw [hfx]; exact hX _))
  isplitl [Ht]; · iexact Ht
  isplitl [Hx]; · iexact Hx
  isplitl [Ho]; · iexact Ho
  iintro %fo' %hfo Ht Hx Ho
  iapply HQ
  isplitl [Ht]; · iexact Ht
  isplitl [Hx]; · iexists fx; iexact Hx
  iexists fo'
  isplitr; · ipureintro; rw [hfo, hfx]
  iexact Ho

/-- Starting a write, from the buffer at a chunk's results. -/
theorem wp_fireOHas {a : Memref sig .scVector .vmem S8x8x512 .f32} {ha : a.IsWhole} {s : DmaSems sig S_} {off : Fin 3 → ℕ}
    {inb : ∀ a, off a + S8x8x512.size a ≤ S200x8x16384.size a} (c : ℕ) (hoff : off = ![8 * c, 0, col L])
    {X : S200x16384.Idx → BitVec 32} {tb : S64.Idx → Elt F .f32}
    {g : S200x8x16384.Idx → Elt F .f32} {Q : PUnit → sProp 𝕄} :
    iprop(OHas d L a X tb c ∗ Op d L (oRg L c (c + 1)) g ∗ semVal (thr d L, SemLoc.dma s.sem) 0 ∗ (OFly d L a s (GT X tb) c -∗ Q ⟨⟩))
      ⊢ wp frame (wpE (defs₀ (F := F)) 𝒱₀ (thr d L) none) Set.univ (fireO (F := F) L a ha s off inb) Q := by
  unfold OHas
  iintro ⟨⟨%fo, %hfo, Ha⟩, Ho, Hs, HQ⟩
  iapply (wp_fireO d L c hoff hfo)
  isplitl [Ha]; · iexact Ha
  isplitl [Ho]; · iexact Ho
  isplitl [Hs]; · iexact Hs
  iexact HQ

/-- The semaphore `s` of the task at rest. -/
abbrev Sm (s : DmaSems sig S_) : sProp 𝕄 := semVal (thr d L, SemLoc.dma s.sem) 0

variable (X : S200x16384.Idx → BitVec 32) (tb : S64.Idx → Elt F .f32) (qA qB qT : PosShare TreeShare) (g₀ : S200x8x16384.Idx → Elt F .f32)
  (O : CellTallies nD τ sig (HIx 1)) (W : Waits sig (HIx 1))

/-- Before trip `h` of the main loop: chunks `2 h`, `2 h + 1` on their way out, the next two on their way in. -/
def Inv (h : ℕ) : sProp 𝕄 :=
  iprop(Tb d L tb ∗ OFly d L sOA cc1_scratch7 (GT X tb) (2 * h) ∗ OFly d L sOB cc1_scratch8 (GT X tb) (2 * h + 1)
    ∗ XFly d L sXA cc1_scratch5 qA X (2 * h + 2) ∗ XFly d L sXB cc1_scratch6 qB X (min (2 * h + 3) 24)
    ∗ Op d L (oRg L 0 (2 * h)) (GT X tb) ∗ Op d L (oRg L (2 * h + 2) 25) g₀ ∗ Owe d L O W)

/-- One trip of the main loop. -/
theorem wp_prog3 (hX : ∀ p, (X p).toNat < 8) (hO : ∀ g, O g none = 0) (k : Fin k1_t3_loop.trips) :
    iprop(Lv ∗ Inv d L X tb qA qB g₀ O W k.val)
      ⊢ wp frame (wpE (defs₀ (F := F)) 𝒱₀ (thr d L) none) Set.univ (prog3 (F := F) L k) fun _ => iprop(Lv ∗ Inv d L X tb qA qB g₀ O W (k.val + 1)) := by
  have hk : k.val < 11 := k.isLt
  unfold prog3 prog9 Inv
  simp only [wp_bind, wp_pure]
  iintro ⟨#Hlv, Ht, HoA, HoB, HxA, HxB, Hdone, Htodo, HO⟩
  rw [show min (2 * k.val + 3) 24 = 2 * k.val + 3 by omega]
  iapply (wp_waitO d L (2 * k.val) hO)
  isplitr; · iexact Hlv
  isplitl [HoA]; · iexact HoA
  isplitl [HO]; · iexact HO
  iintro ⟨Hp, HoA, HsoA, HO⟩
  ihave Hdone := (Op_split d L (Nat.zero_le _) (Nat.le_succ (2 * k.val)) (GT X tb)).2 $$ [Hdone Hp]
  · isplitl [Hdone] <;> iassumption
  iapply (wp_waitX d L (2 * k.val + 2) hO)
  isplitr; · iexact Hlv
  isplitl [HxA]; · iexact HxA
  isplitl [HO]; · iexact HO
  iintro ⟨HxA, HxsA, HsxA, HO⟩
  iapply (wp_chunk d L hX (2 * k.val + 2))
  isplitl [Ht]; · iexact Ht
  isplitl [HxA]; · iexact HxA
  isplitl [HoA]; · iexact HoA
  iintro ⟨Ht, HxA, HoA⟩
  ihave Htodo := (Op_split d L (Nat.le_succ (2 * k.val + 2)) (show 2 * k.val + 2 + 1 ≤ 25 by omega) g₀).1 $$ Htodo
  icases Htodo with ⟨Hp, Htodo⟩
  iapply (wp_fireOHas d L (2 * k.val + 2) (off34 L k))
  isplitl [HoA]; · iexact HoA
  isplitl [Hp]; · iexact Hp
  isplitl [HsoA]; · iexact HsoA
  iintro HoA
  iapply (wp_fireX d L (2 * (k.val + 1) + 2) (off35 L k))
  isplitl [HxA]; · iexact HxA
  isplitl [HxsA]; · iexact HxsA
  isplitl [HsxA]; · iexact HsxA
  iintro HxA
  iapply (wp_waitO d L (2 * k.val + 1) hO)
  isplitr; · iexact Hlv
  isplitl [HoB]; · iexact HoB
  isplitl [HO]; · iexact HO
  iintro ⟨Hp, HoB, HsoB, HO⟩
  ihave Hdone := (Op_split d L (Nat.zero_le _) (Nat.le_succ (2 * k.val + 1)) (GT X tb)).2 $$ [Hdone Hp]
  · isplitl [Hdone] <;> iassumption
  iapply (wp_waitX d L (2 * k.val + 3) hO)
  isplitr; · iexact Hlv
  isplitl [HxB]; · iexact HxB
  isplitl [HO]; · iexact HO
  iintro ⟨HxB, HxsB, HsxB, HO⟩
  iapply (wp_chunk d L hX (2 * k.val + 3))
  isplitl [Ht]; · iexact Ht
  isplitl [HxB]; · iexact HxB
  isplitl [HoB]; · iexact HoB
  iintro ⟨Ht, HxB, HoB⟩
  ihave Htodo := (Op_split d L (Nat.le_succ (2 * k.val + 3)) (show 2 * k.val + 3 + 1 ≤ 25 by omega) g₀).1 $$ Htodo
  icases Htodo with ⟨Hp, Htodo⟩
  imodintro
  iapply (wp_fireOHas d L (2 * k.val + 3) (off45 L k))
  isplitl [HoB]; · iexact HoB
  isplitl [Hp]; · iexact Hp
  isplitl [HsoB]; · iexact HsoB
  iintro HoB
  iapply (wp_fireX d L (min (2 * (k.val + 1) + 3) 24) (off46 L k))
  isplitl [HxB]; · iexact HxB
  isplitl [HxsB]; · iexact HxsB
  isplitl [HsxB]; · iexact HsxB
  iintro HxB
  imodintro
  isplitr; · iexact Hlv
  isplitl [Ht]; · iexact Ht
  isplitl [HoA]; · iexact HoA
  isplitl [HoB]; · iexact HoB
  isplitl [HxA]; · iexact HxA
  isplitl [HxB]; · iexact HxB
  isplitl [Hdone]; · iexact Hdone
  isplitl [Htodo]; · iexact Htodo
  iexact HO

/-- What the task has between its opening and the rest: chunk 0 on its way out, chunk 1 in, chunk 2 on its way in. -/
def Mid : sProp 𝕄 :=
  iprop(Tb d L tb ∗ OFly d L sOA cc1_scratch7 (GT X tb) 0 ∗ Any d L sOB ∗ Sm d L cc1_scratch8
    ∗ XFly d L sXA cc1_scratch5 qA X 2 ∗ XHas d L sXB X 1 ∗ Xs d L qB X ∗ Sm d L cc1_scratch6
    ∗ Op d L (oRg L 1 25) g₀ ∗ Owe d L O W)

/-- The opening. -/
theorem wp_prog12 (hX : ∀ p, (X p).toNat < 8) (hO : ∀ g, O g none = 0) {Q : BitVec 32 → sProp 𝕄} :
    iprop(Lv ∗ (Any d L sT ∗ Any d L sXA ∗ Any d L sXB ∗ Any d L sOA ∗ Any d L sOB)
        ∗ (Sm d L cc1_scratch5 ∗ Sm d L cc1_scratch6 ∗ Sm d L cc1_scratch7 ∗ Sm d L cc1_scratch8 ∗ Sm d L cc1_scoped0)
        ∗ Xs d L qA X ∗ Xs d L qB X ∗ ((tV : Memref sig .scVector .hbm S64 .f32).view.loc (thr d L) ↦{qT} tb) ∗ Op d L (oRg L 0 25) g₀ ∗ Owe d L O W
        ∗ ((Mid d L X tb qA qB g₀ O W ∗ ((tV : Memref sig .scVector .hbm S64 .f32).view.loc (thr d L) ↦{qT} tb) ∗ Sm d L cc1_scoped0) -∗ Q 0#32))
      ⊢ wp frame (wpE (defs₀ (F := F)) 𝒱₀ (thr d L) none) Set.univ (prog12 (F := F) L) Q := by
  unfold prog12 Mid
  simp only [wp_bind, wp_pure]
  iintro ⟨#Hlv, ⟨Ht, HxA, HxB, HoA, HoB⟩, ⟨HsxA, HsxB, HsoA, HsoB, Hsc⟩, HxsA, HxsB, Htv, Htodo, HO, HQ⟩
  iapply (wp_fireX d L 0 (off1_0 L))
  isplitl [HxA]; · iexact HxA
  isplitl [HxsA]; · iexact HxsA
  isplitl [HsxA]; · iexact HsxA
  iintro HxA
  iapply (wp_fireX d L 1 (off1_1 L))
  isplitl [HxB]; · iexact HxB
  isplitl [HxsB]; · iexact HxsB
  isplitl [HsxB]; · iexact HsxB
  iintro HxB
  iapply (wp_fetchT d L hO)
  isplitr; · iexact Hlv
  isplitl [Ht]; · iexact Ht
  isplitl [Htv]; · iexact Htv
  isplitl [Hsc]; · iexact Hsc
  isplitl [HO]; · iexact HO
  iintro ⟨Ht, Htv, Hsc, HO⟩
  iapply (wp_waitX d L 0 hO)
  isplitr; · iexact Hlv
  isplitl [HxA]; · iexact HxA
  isplitl [HO]; · iexact HO
  iintro ⟨HxA, HxsA, HsxA, HO⟩
  iapply (wp_chunk d L hX 0)
  isplitl [Ht]; · iexact Ht
  isplitl [HxA]; · iexact HxA
  isplitl [HoA]; · iexact HoA
  iintro ⟨Ht, HxA, HoA⟩
  ihave Htodo := (Op_split d L (Nat.le_succ 0) (show 0 + 1 ≤ 25 by omega) g₀).1 $$ Htodo
  icases Htodo with ⟨Hp, Htodo⟩
  iapply (wp_fireOHas d L 0 (off12_0 L))
  isplitl [HoA]; · iexact HoA
  isplitl [Hp]; · iexact Hp
  isplitl [HsoA]; · iexact HsoA
  iintro HoA
  iapply (wp_fireX d L 2 (off13_0 L))
  isplitl [HxA]; · iexact HxA
  isplitl [HxsA]; · iexact HxsA
  isplitl [HsxA]; · iexact HsxA
  iintro HxA
  iapply (wp_waitX d L 1 hO)
  isplitr; · iexact Hlv
  isplitl [HxB]; · iexact HxB
  isplitl [HO]; · iexact HO
  iintro ⟨HxB, HxsB, HsxB, HO⟩
  imodintro
  iapply HQ
  isplitr [Htv Hsc]
  · isplitl [Ht]; · iexact Ht
    isplitl [HoA]; · iexact HoA
    isplitl [HoB]; · iexact HoB
    isplitl [HsoB]; · iexact HsoB
    isplitl [HxA]; · iexact HxA
    isplitl [HxB]; · iexact HxB
    isplitl [HxsB]; · iexact HxsB
    isplitl [HsxB]; · iexact HsxB
    isplitl [Htodo]; · iexact Htodo
    iexact HO
  · isplitl [Htv]; · iexact Htv
    iexact Hsc

/-- What the task has before its close: the last two chunks on their way out, nothing left to start. -/
def Late : sProp 𝕄 :=
  iprop(Tb d L tb ∗ OFly d L sOA cc1_scratch7 (GT X tb) 24 ∗ OFly d L sOB cc1_scratch8 (GT X tb) 23
    ∗ Any d L sXA ∗ Xs d L qA X ∗ Sm d L cc1_scratch5 ∗ XFly d L sXB cc1_scratch6 qB X 24
    ∗ Op d L (oRg L 0 23) (GT X tb) ∗ Owe d L O W)

/-- The second chunk, the main loop, the last chunk. -/
theorem wp_prog13 (hX : ∀ p, (X p).toNat < 8) (hO : ∀ g, O g none = 0) {Q : (Σ' (_ : BitVec 32), BitVec 32) → sProp 𝕄} :
    iprop(Lv ∗ Mid d L X tb qA qB g₀ O W ∗ (Late d L X tb qA qB O W -∗ Q ⟨Scalar.addi 24#32 2#32, 24#32⟩))
      ⊢ wp frame (wpE (defs₀ (F := F)) 𝒱₀ (thr d L) none) Set.univ (prog13 (F := F) L) Q := by
  unfold prog13 Mid Late
  simp only [wp_bind, wp_pure]
  iintro ⟨#Hlv, ⟨Ht, HoA, HoB, HsoB, HxA, HxB, HxsB, HsxB, Htodo, HO⟩, HQ⟩
  iapply (wp_chunk d L hX 1)
  isplitl [Ht]; · iexact Ht
  isplitl [HxB]; · iexact HxB
  isplitl [HoB]; · iexact HoB
  iintro ⟨Ht, HxB, HoB⟩
  ihave Htodo := (Op_split d L (Nat.le_succ 1) (show 1 + 1 ≤ 25 by omega) g₀).1 $$ Htodo
  icases Htodo with ⟨Hp, Htodo⟩
  iapply (wp_fireOHas d L 1 (off12_1 L))
  isplitl [HoB]; · iexact HoB
  isplitl [Hp]; · iexact Hp
  isplitl [HsoB]; · iexact HsoB
  iintro HoB
  iapply (wp_fireX d L 3 (off13_1 L))
  isplitl [HxB]; · iexact HxB
  isplitl [HxsB]; · iexact HxsB
  isplitl [HsxB]; · iexact HsxB
  iintro HxB
  iapply (Scf.wp_for (I := fun h _ => iprop(Lv ∗ Inv d L X tb qA qB g₀ O W h)) (hbody := fun k _ => wp_prog3 d L X tb qA qB g₀ O W hX hO k))
  isplitr [HQ]
  · isplitr; · iexact Hlv
    unfold Inv
    isplitl [Ht]; · iexact Ht
    isplitl [HoA]; · iexact HoA
    isplitl [HoB]; · iexact HoB
    isplitl [HxA]; · iexact HxA
    isplitl [HxB]; · iexact HxB
    isplitr
    · rw [show 2 * 0 = 0 from rfl, oRg_self]
      rw [show (Op d L ∅ (GT X tb) : sProp 𝕄) = iprop(emp) from pointsTo_empty]
      iempintro
    isplitl [Htodo]; · iexact Htodo
    iexact HO
  iintro %acc ⟨-, HI⟩
  rw [show Scf.trips k1_t3_loop.lb k1_t3_loop.ub k1_t3_loop.st = 11 from by decide +kernel]
  unfold Inv
  icases HI with ⟨Ht, HoA, HoB, HxA, HxB, Hdone, Htodo, HO⟩
  iapply (wp_waitO d L (2 * 11) hO)
  isplitr; · iexact Hlv
  isplitl [HoA]; · iexact HoA
  isplitl [HO]; · iexact HO
  iintro ⟨Hp, HoA, HsoA, HO⟩
  ihave Hdone := (Op_split d L (Nat.zero_le _) (Nat.le_succ (2 * 11)) (GT X tb)).2 $$ [Hdone Hp]
  · isplitl [Hdone] <;> iassumption
  iapply (wp_waitX d L (2 * 11 + 2) hO)
  isplitr; · iexact Hlv
  isplitl [HxA]; · iexact HxA
  isplitl [HO]; · iexact HO
  iintro ⟨HxA, HxsA, HsxA, HO⟩
  iapply (wp_chunk d L hX (2 * 11 + 2))
  isplitl [Ht]; · iexact Ht
  isplitl [HxA]; · iexact HxA
  isplitl [HoA]; · iexact HoA
  iintro ⟨Ht, HxA, HoA⟩
  iapply (wp_fireOHas d L 24 (off12_24 L))
  isplitl [HoA]; · iexact HoA
  isplitl [Htodo]; · iexact Htodo
  isplitl [HsoA]; · iexact HsoA
  iintro HoA
  imodintro
  iapply HQ
  isplitl [Ht]; · iexact Ht
  isplitl [HoA]; · iexact HoA
  isplitl [HoB]; · iexact HoB
  isplitl [HxA]; · iexact HxA
  isplitl [HxsA]; · iexact HxsA
  isplitl [HsxA]; · iexact HsxA
  isplitl [HxB]; · iexact HxB
  isplitl [Hdone]; · iexact Hdone
  iexact HO

/-- The task: from its scratch, its semaphores at rest, its shares and its columns of the output to those columns at the
    result, all the rest back. -/
theorem wp_progBody (hX : ∀ p, (X p).toNat < 8) (hO : ∀ g, O g none = 0) :
    iprop(Lv ∗ (Any d L sT ∗ Any d L sXA ∗ Any d L sXB ∗ Any d L sOA ∗ Any d L sOB)
        ∗ (Sm d L cc1_scratch5 ∗ Sm d L cc1_scratch6 ∗ Sm d L cc1_scratch7 ∗ Sm d L cc1_scratch8 ∗ Sm d L cc1_scoped0)
        ∗ Xs d L qA X ∗ Xs d L qB X ∗ ((tV : Memref sig .scVector .hbm S64 .f32).view.loc (thr d L) ↦{qT} tb) ∗ Op d L (oRg L 0 25) g₀ ∗ Owe d L O W)
      ⊢ wp frame (wpE (defs₀ (F := F)) 𝒱₀ (thr d L) none) Set.univ (progBody (F := F) L) fun _ =>
        iprop((Any d L sT ∗ Any d L sXA ∗ Any d L sXB ∗ Any d L sOA ∗ Any d L sOB)
        ∗ (Sm d L cc1_scratch5 ∗ Sm d L cc1_scratch6 ∗ Sm d L cc1_scratch7 ∗ Sm d L cc1_scratch8 ∗ Sm d L cc1_scoped0)
        ∗ Xs d L qA X ∗ Xs d L qB X ∗ ((tV : Memref sig .scVector .hbm S64 .f32).view.loc (thr d L) ↦{qT} tb) ∗ Op d L (oRg L 0 25) (GT X tb) ∗ Owe d L O W) := by
  unfold progBody
  simp only [wp_bind, wp_pure]
  iintro ⟨#Hlv, Hbufs, Hsems, HxsA, HxsB, Htv, Ho, HO⟩
  iapply (wp_prog12 d L X tb qA qB qT g₀ O W hX hO)
  isplitr; · iexact Hlv
  isplitl [Hbufs]; · iexact Hbufs
  isplitl [Hsems]; · iexact Hsems
  isplitl [HxsA]; · iexact HxsA
  isplitl [HxsB]; · iexact HxsB
  isplitl [Htv]; · iexact Htv
  isplitl [Ho]; · iexact Ho
  isplitl [HO]; · iexact HO
  iintro ⟨HM, Htv, Hsc⟩
  iapply (wp_prog13 d L X tb qA qB g₀ O W hX hO)
  isplitr; · iexact Hlv
  isplitl [HM]; · iexact HM
  unfold Late
  iintro ⟨Ht, HoA, HoB, HxA, HxsA, HsxA, HxB, Hdone, HO⟩
  iapply (wp_fireX d L 24 (off13_24 L))
  isplitl [HxA]; · iexact HxA
  isplitl [HxsA]; · iexact HxsA
  isplitl [HsxA]; · iexact HsxA
  iintro HxA
  iapply (wp_waitO d L 24 hO)
  isplitr; · iexact Hlv
  isplitl [HoA]; · iexact HoA
  isplitl [HO]; · iexact HO
  iintro ⟨Hp24, HoA, HsoA, HO⟩
  iapply (wp_waitO d L 23 hO)
  isplitr; · iexact Hlv
  isplitl [HoB]; · iexact HoB
  isplitl [HO]; · iexact HO
  iintro ⟨Hp23, HoB, HsoB, HO⟩
  ihave Hdone := (Op_split d L (Nat.zero_le 23) (Nat.le_succ 23) (GT X tb)).2 $$ [Hdone Hp23]
  · isplitl [Hdone] <;> iassumption
  ihave Hdone := (Op_split d L (Nat.zero_le 24) (Nat.le_succ 24) (GT X tb)).2 $$ [Hdone Hp24]
  · isplitl [Hdone] <;> iassumption
  iapply (wp_waitX d L 24 hO)
  isplitr; · iexact Hlv
  isplitl [HxA]; · iexact HxA
  isplitl [HO]; · iexact HO
  iintro ⟨HxA, HxsA, HsxA, HO⟩
  iapply (wp_waitX d L 24 hO)
  isplitr; · iexact Hlv
  isplitl [HxB]; · iexact HxB
  isplitl [HO]; · iexact HO
  iintro ⟨HxB, HxsB, HsxB, HO⟩
  imodintro
  isplitl [Ht HxA HxB HoA HoB]
  · isplitl [Ht]; · unfold Any; iexists tb; iexact Ht
    isplitl [HxA]; · iapply (XHas_any d L); iexact HxA
    isplitl [HxB]; · iapply (XHas_any d L); iexact HxB
    isplitl [HoA]; · iexact HoA
    iexact HoB
  isplitl [HsxA HsxB HsoA HsoB Hsc]
  · isplitl [HsxA]; · iexact HsxA
    isplitl [HsxB]; · iexact HsxB
    isplitl [HsoA]; · iexact HsoA
    isplitl [HsoB]; · iexact HsoB
    iexact Hsc
  isplitl [HxsA]; · iexact HxsA
  isplitl [HxsB]; · iexact HxsB
  isplitl [Htv]; · iexact Htv
  isplitl [Hdone]; · iexact Hdone
  iexact HO

end Runs

end Cert.Proof.Lookup

end

end
-- ==== Proof.Launch.lean ====
/-
  What the SparseCore call hands each of its 32 tasks and takes back, the task's run from its thread's own buffers and
  semaphores, and the dealing of a SparseCore's share over its 16 tasks.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tasks -/

/-- The task of subcore `i` of SparseCore `c`. -/
def task (c : Fin 2) (i : Fin 16) : grid1.Coords :=
  fun | 0 => c | 1 => i | ⟨_ + 2, h⟩ => absurd h (Nat.not_lt.2 (Nat.le_add_left _ _))

omit [FloatOps F] in
theorem nCore_zero : (K (F := F)).nCore 0 = 2 := rfl
omit [FloatOps F] in
theorem nSub_zero : (K (F := F)).nSub 0 = 16 := rfl

/-- The columns of the output that SparseCore `c` writes: those of its 16 tasks. -/
def coreSet (c : Fin 2) : Finset S200x8x16384.Idx := Finset.univ.biUnion fun i : Fin 16 => oRg (task c i) 0 25

omit [FloatOps F] in
theorem mem_task (c : Fin 2) (i : Fin 16) (z : S200x8x16384.Idx) :
    z ∈ oRg (task c i) 0 25 ↔ (z 2).val / 512 = 2 * i.val + c.val := by
  have h0 : (z 0).val < 200 := (z 0).isLt
  rw [mem_oRg]
  show _ ∧ _ ∧ _ = 2 * i.val + c.val ↔ _
  constructor
  · exact fun h => h.2.2
  · exact fun h => ⟨Nat.zero_le _, by omega, h⟩

omit [FloatOps F] in
/-- A task's columns are no other task's of its SparseCore, -/
theorem task_disjoint (c : Fin 2) :
    ∀ i ∈ (Finset.univ : Finset (Fin 16)), ∀ j ∈ (Finset.univ : Finset (Fin 16)), i ≠ j → Disjoint (oRg (task c i) 0 25) (oRg (task c j) 0 25) := by
  intro i _ j _ hij
  rw [Finset.disjoint_left]
  intro z hi hj
  rw [mem_task] at hi hj
  exact hij (Fin.ext (by omega))

omit [FloatOps F] in
/-- a SparseCore's are not the other's, -/
theorem core_disjoint :
    ∀ c ∈ (Finset.univ : Finset (Fin 2)), ∀ e ∈ (Finset.univ : Finset (Fin 2)), c ≠ e → Disjoint (coreSet c) (coreSet e) := by
  intro c _ e _ hce
  rw [Finset.disjoint_left]
  intro z hc he
  obtain ⟨i, -, hi⟩ := Finset.mem_biUnion.mp hc
  obtain ⟨j, -, hj⟩ := Finset.mem_biUnion.mp he
  rw [mem_task] at hi hj
  have := c.isLt; have := e.isLt
  exact hce (Fin.ext (by omega))

omit [FloatOps F] in
/-- and together the tasks write the whole output. -/
theorem core_cover : (Finset.univ : Finset (Fin 2)).biUnion coreSet = Finset.univ := by
  ext z
  have h2 : (z 2).val < 16384 := (z 2).isLt
  refine ⟨fun _ => Finset.mem_univ _, fun _ => Finset.mem_biUnion.mpr ⟨⟨(z 2).val / 512 % 2, by omega⟩, Finset.mem_univ _,
    Finset.mem_biUnion.mpr ⟨⟨(z 2).val / 512 / 2, by omega⟩, Finset.mem_univ _, ?_⟩⟩⟩
  rw [mem_task]
  show _ = 2 * ((z 2).val / 512 / 2) + (z 2).val / 512 % 2
  omega

/-! ## The shares of what the tasks read -/

/-- The share of SparseCore `c`, and of its task `i`. -/
def qC (c : Fin 2) : PosShare TreeShare := dealOf fullShare Finset.univ c
def qT (c : Fin 2) (i : Fin 16) : PosShare TreeShare := dealOf (qC c) Finset.univ i

section Pays

variable (X : Dev nD → S200x16384.Idx → BitVec 32) (tb : Dev nD → S64.Idx → Elt F .f32)

abbrev xPts (d : Dev nD) (q : PosShare TreeShare) : sProp 𝕄 := (xLoc d) ↦{q} (X d : Buf (Elt F) (xLoc d))
abbrev tPts (d : Dev nD) (q : PosShare TreeShare) : sProp 𝕄 := (tLoc d) ↦{q} (tb d : Buf (Elt F) (tLoc d))
abbrev oPts (d : Dev nD) (S : Finset S200x8x16384.Idx) (g : S200x8x16384.Idx → Elt F .f32) : sProp 𝕄 :=
  (oLoc d) ↦[S]{fullShare} (g : Buf (Elt F) (oLoc d))

variable (g₀ : Dev nD → S200x8x16384.Idx → Elt F .f32)

/-- The one call takes a share of the tokens and of the table for each task and each task's columns of the output; it
    brings them back with the lookup written in the output. -/
def P : (K (F := F)).Pay (nD := nD) (Val := Elt F) (Name := ℕ) (U := UU) where
  st := fun q d c => match q with
    | 0 => iprop(xPts X d (qC (Fin.cast nCore_zero c)) ∗ tPts tb d (qC (Fin.cast nCore_zero c)) ∗ oPts d (coreSet (Fin.cast nCore_zero c)) (g₀ d))
  dn := fun q d c => match q with
    | 0 => iprop(xPts X d (qC (Fin.cast nCore_zero c)) ∗ tPts tb d (qC (Fin.cast nCore_zero c)) ∗ oPts d (coreSet (Fin.cast nCore_zero c)) (GT (X d) (tb d)))
  go := fun q d c i => match q with
    | 0 => iprop(xPts X d (qT (Fin.cast nCore_zero c) (Fin.cast nSub_zero i)) ∗ tPts tb d (qT (Fin.cast nCore_zero c) (Fin.cast nSub_zero i))
        ∗ oPts d (oRg (task (Fin.cast nCore_zero c) (Fin.cast nSub_zero i)) 0 25) (g₀ d))
  td := fun q d c i => match q with
    | 0 => iprop(xPts X d (qT (Fin.cast nCore_zero c) (Fin.cast nSub_zero i)) ∗ tPts tb d (qT (Fin.cast nCore_zero c) (Fin.cast nSub_zero i))
        ∗ oPts d (oRg (task (Fin.cast nCore_zero c) (Fin.cast nSub_zero i)) 0 25) (GT (X d) (tb d)))
  x := fun _ _ => iprop(emp)

instance P_storable : (P (F := F) X tb g₀).IsStorable where
  st q d c := match q with
    | 0 => (inferInstance : BI.Storable (upEmb : UEmb _ 𝕄) iprop(xPts X d (qC (Fin.cast nCore_zero c)) ∗ tPts tb d (qC (Fin.cast nCore_zero c)) ∗ oPts d (coreSet (Fin.cast nCore_zero c)) (g₀ d)))
  dn q d c := match q with
    | 0 => (inferInstance : BI.Storable (upEmb : UEmb _ 𝕄) iprop(xPts X d (qC (Fin.cast nCore_zero c)) ∗ tPts tb d (qC (Fin.cast nCore_zero c)) ∗ oPts d (coreSet (Fin.cast nCore_zero c)) (GT (X d) (tb d))))
  go q d c i := match q with
    | 0 => (inferInstance : BI.Storable (upEmb : UEmb _ 𝕄) iprop(xPts X d (qT (Fin.cast nCore_zero c) (Fin.cast nSub_zero i)) ∗ tPts tb d (qT (Fin.cast nCore_zero c) (Fin.cast nSub_zero i))
        ∗ oPts d (oRg (task (Fin.cast nCore_zero c) (Fin.cast nSub_zero i)) 0 25) (g₀ d)))
  td q d c i := match q with
    | 0 => (inferInstance : BI.Storable (upEmb : UEmb _ 𝕄) iprop(xPts X d (qT (Fin.cast nCore_zero c) (Fin.cast nSub_zero i)) ∗ tPts tb d (qT (Fin.cast nCore_zero c) (Fin.cast nSub_zero i))
        ∗ oPts d (oRg (task (Fin.cast nCore_zero c) (Fin.cast nSub_zero i)) 0 25) (GT (X d) (tb d))))

/-! ## A task from its thread's own buffers and semaphores -/

section Tile

variable (d : Dev nD) (L : grid1.Coords)

/-- The thread's other semaphores at zero, and its other buffers. -/
def restSems : sProp 𝕄 :=
  bigSep ((((((ownCells (thr d L)).erase (thr d L, SemLoc.dma cc1_scratch5.sem)).erase (thr d L, SemLoc.dma cc1_scratch6.sem)).erase
    (thr d L, SemLoc.dma cc1_scratch7.sem)).erase (thr d L, SemLoc.dma cc1_scratch8.sem)).erase (thr d L, SemLoc.dma cc1_scoped0.sem)) fun g => semVal g 0
def restBufs : sProp 𝕄 :=
  bigSep ((((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)).erase ((Proc.scVector (cV L) (jV L)).devRef cc1_scratch4))
    fun b => iprop(∃ f, ((d, b) : Loc nD τ sig) ↦{fullShare} f)

omit [FloatOps F] in
theorem own_cell (s : DmaSems sig S_) (h : (SemLoc.dma s.sem : SemLoc sig).isScoped .scVector = true) :
    ((thr d L, SemLoc.dma s.sem) : GSem nD τ sig) ∈ ownCells (thr d L) := mem_ownCells.mpr ⟨rfl, h⟩

omit [FloatOps F] in
theorem cell_ne {s t : DmaSems sig S_} (h : (SemLoc.dma s.sem : SemLoc sig) ≠ SemLoc.dma t.sem) :
    ((thr d L, SemLoc.dma s.sem) : GSem nD τ sig) ≠ (thr d L, SemLoc.dma t.sem) := fun e => h (Prod.mk.inj e).2

omit [FloatOps F] in
/-- The five semaphores of the task are among its thread's own: they are them and the rest. -/
theorem ownSems0_task :
    (ownSems0 (thr d L) : sProp 𝕄)
      = iprop(Sm d L cc1_scratch5 ∗ Sm d L cc1_scratch6 ∗ Sm d L cc1_scratch7 ∗ Sm d L cc1_scratch8 ∗ Sm d L cc1_scoped0 ∗ restSems d L) := by
  unfold SparseCore.Cfg.ownSems0 restSems
  rw [SparseCore.bigSep_erase' (own_cell d L cc1_scratch5 (by decide)),
    SparseCore.bigSep_erase' (Finset.mem_erase.mpr ⟨cell_ne d L (s := cc1_scratch6) (t := cc1_scratch5) (by decide), own_cell d L cc1_scratch6 (by decide)⟩),
    SparseCore.bigSep_erase' (Finset.mem_erase.mpr ⟨cell_ne d L (s := cc1_scratch7) (t := cc1_scratch6) (by decide),
      Finset.mem_erase.mpr ⟨cell_ne d L (s := cc1_scratch7) (t := cc1_scratch5) (by decide), own_cell d L cc1_scratch7 (by decide)⟩⟩),
    SparseCore.bigSep_erase' (Finset.mem_erase.mpr ⟨cell_ne d L (s := cc1_scratch8) (t := cc1_scratch7) (by decide),
      Finset.mem_erase.mpr ⟨cell_ne d L (s := cc1_scratch8) (t := cc1_scratch6) (by decide),
      Finset.mem_erase.mpr ⟨cell_ne d L (s := cc1_scratch8) (t := cc1_scratch5) (by decide), own_cell d L cc1_scratch8 (by decide)⟩⟩⟩),
    SparseCore.bigSep_erase' (Finset.mem_erase.mpr ⟨cell_ne d L (s := cc1_scoped0) (t := cc1_scratch8) (by decide),
      Finset.mem_erase.mpr ⟨cell_ne d L (s := cc1_scoped0) (t := cc1_scratch7) (by decide),
      Finset.mem_erase.mpr ⟨cell_ne d L (s := cc1_scoped0) (t := cc1_scratch6) (by decide),
      Finset.mem_erase.mpr ⟨cell_ne d L (s := cc1_scoped0) (t := cc1_scratch5) (by decide), own_cell d L cc1_scoped0 (by decide)⟩⟩⟩⟩)]

omit [FloatOps F] in
theorem own_ref (r : Ref sig .scVector) (h : ((Proc.scVector (cV L) (jV L)).devRef r).owner = .proc (.scVector (cV L) (jV L))) :
    (Proc.scVector (cV L) (jV L)).devRef r ∈ ownRefs (τ := τ) (.scVector (cV L) (jV L)) :=
  SparseCore.Cfg.mem_ownRefs_of_owner (p := Proc.scVector (cV L) (jV L)) (b := (Proc.scVector (cV L) (jV L)).devRef r) h

omit [FloatOps F] in
theorem ref_ne {r r' : Ref sig .scVector} (h : r ≠ r') :
    (Proc.scVector (cV L) (jV L)).devRef r ≠ (Proc.scVector (cV L) (jV L)).devRef r' := fun e => absurd (Proc.devRef_injective _ e) h

omit [FloatOps F] in
/-- The five scratch buffers are among the subcore's own: they are them, at some contents, and the rest. -/
theorem ownBufs_task :
    (ownBufs (thr d L) : sProp 𝕄)
      = iprop(Any d L sT ∗ Any d L sXA ∗ Any d L sXB ∗ Any d L sOA ∗ Any d L sOB ∗ restBufs d L) := by
  unfold SparseCore.Cfg.ownBufs restBufs
  refine (SparseCore.bigSep_erase' (own_ref L cc1_scratch0 rfl)).trans ?_
  rw [SparseCore.bigSep_erase' (Finset.mem_erase.mpr ⟨ref_ne L (r := cc1_scratch1) (r' := cc1_scratch0) (by decide), own_ref L cc1_scratch1 rfl⟩),
    SparseCore.bigSep_erase' (Finset.mem_erase.mpr ⟨ref_ne L (r := cc1_scratch2) (r' := cc1_scratch1) (by decide),
      Finset.mem_erase.mpr ⟨ref_ne L (r := cc1_scratch2) (r' := cc1_scratch0) (by decide), own_ref L cc1_scratch2 rfl⟩⟩),
    SparseCore.bigSep_erase' (Finset.mem_erase.mpr ⟨ref_ne L (r := cc1_scratch3) (r' := cc1_scratch2) (by decide),
      Finset.mem_erase.mpr ⟨ref_ne L (r := cc1_scratch3) (r' := cc1_scratch1) (by decide),
      Finset.mem_erase.mpr ⟨ref_ne L (r := cc1_scratch3) (r' := cc1_scratch0) (by decide), own_ref L cc1_scratch3 rfl⟩⟩⟩),
    SparseCore.bigSep_erase' (Finset.mem_erase.mpr ⟨ref_ne L (r := cc1_scratch4) (r' := cc1_scratch3) (by decide),
      Finset.mem_erase.mpr ⟨ref_ne L (r := cc1_scratch4) (r' := cc1_scratch2) (by decide),
      Finset.mem_erase.mpr ⟨ref_ne L (r := cc1_scratch4) (r' := cc1_scratch1) (by decide),
      Finset.mem_erase.mpr ⟨ref_ne L (r := cc1_scratch4) (r' := cc1_scratch0) (by decide), own_ref L cc1_scratch4 rfl⟩⟩⟩⟩)]
  rfl

end Tile

/-- One task: from its shares and its columns of the output to the same with the lookup written there. -/
theorem tile_body (hX : ∀ d p, (X d p).toNat < 8) (d : Dev nD) (L : grid1.Coords) (q : PosShare TreeShare) (hF : (K (F := F)).Facts)
    (O : CellTallies nD τ sig (HIx 1)) (W : Waits sig (HIx 1)) (hO : ∀ g, O g none = 0) :
    iprop(levAts (K (F := F)).L (K (F := F)).lev ∗ emp
        ∗ (xPts X d q ∗ tPts tb d q ∗ oPts d (oRg L 0 25) (g₀ d))
        ∗ scopedBufs (thr d L) ∗ scopedSems0 (thr d L) ∗ owes (thr d L) O W)
      ⊢ wp frame (wpE (defs₀ (F := F)) 𝒱₀ (thr d L) none) Set.univ
          (cc1__sc_body (F := F) L xV (Memref.isWhole_whole _) tV (Memref.isWhole_whole _) oV (Memref.isWhole_whole _) sT (Memref.isWhole_whole _)
            sXA (Memref.isWhole_whole _) sXB (Memref.isWhole_whole _) sOA (Memref.isWhole_whole _) sOB (Memref.isWhole_whole _)
            cc1_scratch5 cc1_scratch6 cc1_scratch7 cc1_scratch8 cc1_scoped0)
          fun _ => iprop((xPts X d q ∗ tPts tb d q ∗ oPts d (oRg L 0 25) (GT (X d) (tb d)))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_task, ownBufs_task, body_eq]
  iintro ⟨#Hlv, -, ⟨Hx, Ht, Ho⟩, ⟨B0, B1, B2, B3, B4, Hb⟩, ⟨S0, S1, S2, S3, S4, Hs⟩, HO⟩
  ihave Hx' := (pointsTo_share (PosShare.mem_left_op_right q)).1 $$ Hx
  icases Hx' with ⟨HxA, HxB⟩
  iapply (wp_wand_r frame _ _)
  isplitl [HxA HxB Ht Ho B0 B1 B2 B3 B4 S0 S1 S2 S3 S4 HO]
  · iapply (wp_progBody d L (X d) (tb d) q.left q.right q (g₀ d) O W (hX d) hO)
    isplitr; · iexact Hlv
    isplitl [B0 B1 B2 B3 B4]
    · isplitl [B0]; · iexact B0
      isplitl [B1]; · iexact B1
      isplitl [B2]; · iexact B2
      isplitl [B3]; · iexact B3
      iexact B4
    isplitl [S0 S1 S2 S3 S4]
    · isplitl [S0]; · iexact S0
      isplitl [S1]; · iexact S1
      isplitl [S2]; · iexact S2
      isplitl [S3]; · iexact S3
      iexact S4
    isplitl [HxA]; · iexact HxA
    isplitl [HxB]; · iexact HxB
    isplitl [Ht]; · iexact Ht
    isplitl [Ho]; · iexact Ho
    unfold Owe
    iexists W; isplitr
    · ipureintro; exact fun p hp => .inl hp
    iexact HO
  iintro %a ⟨⟨B0, B1, B2, B3, B4⟩, ⟨S0, S1, S2, S3, S4⟩, HxA, HxB, Ht, Ho, HO⟩
  ihave Hx := (pointsTo_share (PosShare.mem_left_op_right q)).2 $$ [HxA HxB]
  · isplitl [HxA]; · iexact HxA
    iexact HxB
  isplitl [Hx Ht Ho]
  · isplitl [Hx]; · iexact Hx
    isplitl [Ht]; · iexact Ht
    iexact Ho
  isplitl [B0 B1 B2 B3 B4 Hb]
  · isplitl [B0]; · iexact B0
    isplitl [B1]; · iexact B1
    isplitl [B2]; · iexact B2
    isplitl [B3]; · iexact B3
    isplitl [B4]; · iexact B4
    iexact Hb
  isplitl [S0 S1 S2 S3 S4 Hs]
  · isplitl [S0]; · iexact S0
    isplitl [S1]; · iexact S1
    isplitl [S2]; · iexact S2
    isplitl [S3]; · iexact S3
    isplitl [S4]; · iexact S4
    iexact Hs
  unfold Owe
  iexact HO

/-! ## The launch theorem's obligations -/

theorem defs₀_vector (c : Fin τ.nSC) (s : Fin τ.nSub) :
    defs₀ (F := F) (.scVector c s) 1 ()
      = SparseCore.onTile hcore1 hsub1 (fun c s => cc1__sc_body (F := F) (task c s)
          xV (Memref.isWhole_whole _) tV (Memref.isWhole_whole _) oV (Memref.isWhole_whole _) sT (Memref.isWhole_whole _)
          sXA (Memref.isWhole_whole _) sXB (Memref.isWhole_whole _) sOA (Memref.isWhole_whole _) sOB (Memref.isWhole_whole _)
          cc1_scratch5 cc1_scratch6 cc1_scratch7 cc1_scratch8 cc1_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call runs from what its `go` hands it to what its end hands back. -/
theorem tileObl (hX : ∀ d p, (X d p).toNat < 8) (hF : (K (F := F)).Facts) : (K (F := F)).TileObl (D (F := F)) 𝒱 (P X tb g₀) v₀ 0 := by
  intro d c i O W hO _ _
  simp only [show (P X tb g₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body X tb g₀ hX d (task ⟨_, hc.1⟩ ⟨_, hc.2⟩) (qT (Fin.cast nCore_zero c) (Fin.cast nSub_zero i)) hF O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What SparseCore `c` holds is its tasks' shares and columns, at any contents of the output. -/
theorem core_deal (d : Dev nD) (c : Fin 2) (g : S200x8x16384.Idx → Elt F .f32) :
    (iprop(xPts X d (qC c) ∗ tPts tb d (qC c) ∗ oPts d (coreSet c) g) : sProp 𝕄)
      = bigSep Finset.univ fun i : Fin 16 => iprop(xPts X d (qT c i) ∗ tPts tb d (qT c i) ∗ oPts d (oRg (task c i) 0 25) g) := by
  rw [bigSep_sep', bigSep_sep']
  have h1 : (xPts X d (qC c) : sProp 𝕄) = bigSep Finset.univ fun i : Fin 16 => xPts X d (qT c i) :=
    pointsTo_deal Finset.univ Finset.univ_nonempty (qC c)
  have h2 : (tPts tb d (qC c) : sProp 𝕄) = bigSep Finset.univ fun i : Fin 16 => tPts tb d (qT c i) :=
    pointsTo_deal Finset.univ Finset.univ_nonempty (qC c)
  have h3 : (oPts d (coreSet c) g : sProp 𝕄) = bigSep Finset.univ fun i : Fin 16 => oPts d (oRg (task c i) 0 25) g :=
    pointsTo_biUnion Finset.univ (ℓ := oLoc d) (fun i => oRg (task c i) 0 25) (task_disjoint c)
  rw [h1, h2, h3]

/-- What the TensorCore holds is the SparseCores' shares and columns, at any contents of the output. -/
theorem call_deal (d : Dev nD) (g : S200x8x16384.Idx → Elt F .f32) :
    (iprop(xPts X d fullShare ∗ tPts tb d fullShare ∗ oPts d Finset.univ g) : sProp 𝕄)
      = bigSep Finset.univ fun c : Fin 2 => iprop(xPts X d (qC c) ∗ tPts tb d (qC c) ∗ oPts d (coreSet c) g) := by
  rw [bigSep_sep', bigSep_sep']
  have h1 : (xPts X d fullShare : sProp 𝕄) = bigSep Finset.univ fun c : Fin 2 => xPts X d (qC c) :=
    pointsTo_deal Finset.univ Finset.univ_nonempty fullShare
  have h2 : (tPts tb d fullShare : sProp 𝕄) = bigSep Finset.univ fun c : Fin 2 => tPts tb d (qC c) :=
    pointsTo_deal Finset.univ Finset.univ_nonempty fullShare
  have h3 : (oPts d Finset.univ g : sProp 𝕄) = bigSep Finset.univ fun c : Fin 2 => oPts d (coreSet c) g := by
    have := pointsTo_biUnion (q := fullShare) (f := (g : Buf (Elt F) (oLoc d))) (Ix := HIx 1) (Name := ℕ) (U := UU) (Lvl := ℕ) Finset.univ (ℓ := oLoc d) coreSet core_disjoint
    rw [core_cover] at this
    exact this
  rw [h1, h2, h3]

/-- A SparseCore deals what it is handed over its tasks, and joins what they hand back. -/
theorem vecSplit : (K (F := F)).VecSplit' (P X tb g₀) 0 := by
  intro d c
  show iprop(xPts X d (qC (Fin.cast nCore_zero c)) ∗ tPts tb d (qC (Fin.cast nCore_zero c)) ∗ oPts d (coreSet (Fin.cast nCore_zero c)) (g₀ d))
    ⊢ |={Set.univ}=> iprop(
      (bigSep Finset.univ fun i : Fin ((K (F := F)).nSub 0) => iprop(xPts X d (qT (Fin.cast nCore_zero c) (Fin.cast nSub_zero i))
        ∗ tPts tb d (qT (Fin.cast nCore_zero c) (Fin.cast nSub_zero i)) ∗ oPts d (oRg (task (Fin.cast nCore_zero c) (Fin.cast nSub_zero i)) 0 25) (g₀ d)))
      ∗ ((bigSep Finset.univ fun i : Fin ((K (F := F)).nSub 0) => iprop(xPts X d (qT (Fin.cast nCore_zero c) (Fin.cast nSub_zero i))
        ∗ tPts tb d (qT (Fin.cast nCore_zero c) (Fin.cast nSub_zero i)) ∗ oPts d (oRg (task (Fin.cast nCore_zero c) (Fin.cast nSub_zero i)) 0 25) (GT (X d) (tb d))))
        -∗ iprop(xPts X d (qC (Fin.cast nCore_zero c)) ∗ tPts tb d (qC (Fin.cast nCore_zero c)) ∗ oPts d (coreSet (Fin.cast nCore_zero c)) (GT (X d) (tb d)))))
  generalize Fin.cast nCore_zero c = c
  rw [bigSep_tasks (F := F) (fun i => iprop(xPts X d (qT c i) ∗ tPts tb d (qT c i) ∗ oPts d (oRg (task c i) 0 25) (g₀ d))),
    bigSep_tasks (F := F) (fun i => iprop(xPts X d (qT c i) ∗ tPts tb d (qT c i) ∗ oPts d (oRg (task c i) 0 25) (GT (X d) (tb d)))),
    ← core_deal X tb d c (g₀ d), ← core_deal X tb d c (GT (X d) (tb d))]
  iintro H; imodintro
  isplitl [H]; · iexact H
  iintro H; iexact H

end Pays

end Cert.Proof.Lookup

end

end
-- ==== Proof.TcCall.lean ====
/-
  The TensorCore call, which multiplies the embedding rows by the weights and adds the bias: its body run at one point, and
  the call as one step of the host program, from its four arrays to the same with the product in the fourth.
-/
module

public import proofs.«01_k».proof.Proof.Base
public import proofs.«01_k».proof.Proof.Gen.KernelIdeal.Points
public import Idealize.ShloMosaic.Lib.Pipeline.ValueKit
public import Idealize.ShloMosaic.Lib.VecWindow

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

abbrev mA : Memref sig .tc .vmem S8x16 .f32 := stage0_0 0
abbrev mB : Memref sig .tc .vmem S16x8 .f32 := stage0_1 0
abbrev mC : Memref sig .tc .vmem S1x8 .f32 := stage0_2 0
abbrev mD : Memref sig .tc .vmem S8x8 .f32 := stage0_3 0

set_option maxRecDepth 8192 in
/-- From the three operands staged, the body leaves the product and the bias in the fourth buffer. -/
theorem wp_lt (c : Dev nD) (a : S8x16.Idx → Elt F .f32) (b : S16x8.Idx → Elt F .f32) (e : S1x8.Idx → Elt F .f32) (g : S8x8.Idx → Elt F .f32)
    (Q : PUnit → sProp 𝕄) :
    iprop((mA.view.loc (c : Thread nD τ) ↦{fullShare} a) ∗ (mB.view.loc (c : Thread nD τ) ↦{fullShare} b) ∗ (mC.view.loc (c : Thread nD τ) ↦{fullShare} e)
        ∗ (mD.view.loc (c : Thread nD τ) ↦{fullShare} g)
        ∗ (((mA.view.loc (c : Thread nD τ) ↦{fullShare} a) ∗ (mB.view.loc (c : Thread nD τ) ↦{fullShare} b) ∗ (mC.view.loc (c : Thread nD τ) ↦{fullShare} e)
            ∗ (mD.view.loc (c : Thread nD τ) ↦{fullShare} k0_pay1 a b e)) -∗ Q ⟨⟩))
      ⊢ wp frame (wpE (defs₀ (F := F)) 𝒱₀ (c : Thread nD τ) none) Set.univ
          (cc0__lt_body (F := F) mA (hstage0_0 0) mB (hstage0_1 0) mC (hstage0_2 0) mD (hstage0_3 0)) Q := by
  rw [cc0__lt_body_eq_skeleton]
  unfold cc0__lt_body_skel
  iintro ⟨HA, HB, HC, HD, Hk⟩
  sl_exec!
  sl_step
  iapply Hk
  isplitl [HA]; · iexact HA
  isplitl [HB]; · iexact HB
  isplitl [HC]; · iexact HC
  refine Entails.of_eq ?_
  congr 1
  unfold wp_lt.sl.HD_1
  have h1 : ∀ z : mD.view.ty.Contents (Elt F), mD.view.read (Elt F) z = z := fun _ => rfl
  refine (h1 _).symm.trans ?_
  rw [View.read_writes_full, View.readAt_full, View.readAt_full, View.readAt_full]
  rfl

/-! ## The proof data -/

section region

variable (a : Dev nD → S8x16.Idx → Elt F .f32) (b : Dev nD → S16x8.Idx → Elt F .f32) (e : Dev nD → S1x8.Idx → Elt F .f32)
  (g : Dev nD → S8x8.Idx → Elt F .f32)

/-- What the call's waits may have recorded before it: pairs at level zero. -/
abbrev low (d : Dev nD) : Set (SemLoc sig × HIx 1) := {p | (K (F := F)).lev (SparseCore.T d, p.1) p.2 ≤ 0}

/-- The call's data: its four arrays, each window's buffer after the body, and what the core owes all through. -/
def dat (d : Dev nD) : Dat τ (Elt F) (HIx 1) ℕ UU ℕ cfg0 d where
  A w := match w with
    | ⟨0, _⟩ => a d
    | ⟨1, _⟩ => b d
    | ⟨2, _⟩ => e d
    | ⟨3, _⟩ => g d
  after w _ := match w with
    | ⟨0, _⟩ => a d
    | ⟨1, _⟩ => b d
    | ⟨2, _⟩ => e d
    | ⟨3, _⟩ => k0_pay1 (a d) (b d) (e d)
  Φ _ := BI.emp
  q _ := fullShare
  owed _ := (K (F := F)).Otc d 0
  recorded _ := low (F := F) d

abbrev adm : (p : Fin 1) → (pcfgs (F := F) p).Adm := fun p => (cfgs p).toPCfg_adm

def pdats : (p : Fin 1) → (d : Dev nD) → Dat τ (Elt F) (HIx 1) ℕ UU ℕ (Pipeline.pin (pcfgs (F := F)) adm p) d
  | ⟨0, _⟩ => dat a b e g

theorem before_0 (d : Dev nD) (z) : (dat a b e g d).before 0 t0_0 z = a d := by
  unfold Dat.before
  rw [if_pos (by decide)]
  refine (show _ = ((cfg0.win 0).blk t0_0).view.read (Elt F) (a d) from rfl).trans (funext fun j => ?_)
  exact congrArg (a d) (funext fun i => Fin.ext (Window.rect_emb_val_of_index_zero (cfg0.win 0) t0_0 i (by revert i; decide) j))
theorem before_1 (d : Dev nD) (z) : (dat a b e g d).before 1 t0_0 z = b d := by
  unfold Dat.before
  rw [if_pos (by decide)]
  refine (show _ = ((cfg0.win 1).blk t0_0).view.read (Elt F) (b d) from rfl).trans (funext fun j => ?_)
  exact congrArg (b d) (funext fun i => Fin.ext (Window.rect_emb_val_of_index_zero (cfg0.win 1) t0_0 i (by revert i; decide) j))
theorem before_2 (d : Dev nD) (z) : (dat a b e g d).before 2 t0_0 z = e d := by
  unfold Dat.before
  rw [if_pos (by decide)]
  refine (show _ = ((cfg0.win 2).blk t0_0).view.read (Elt F) (e d) from rfl).trans (funext fun j => ?_)
  exact congrArg (e d) (funext fun i => Fin.ext (Window.rect_emb_val_of_index_zero (cfg0.win 2) t0_0 i (by revert i; decide) j))

theorem body_obligation (d : Dev nD) : BodyObligation (dat a b e g d) (defs₀ (F := F)) 𝒱₀ none Set.univ := fun t => by
  obtain rfl := fin_N0 t
  rw [bigSep_W0, bigSep_W0]
  simp only [owns_whole_eq]
  rw [show (dat a b e g d).Φ t0_0.castSucc = BI.emp from rfl, show (dat a b e g d).Φ t0_0.succ = BI.emp from rfl,
    show (dat a b e g d).owesAt none t0_0.succ = (dat a b e g d).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply (wp_lt d (a d) (b d) (e d) f3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The fourth array after the call. -/
theorem arr_3 (d : Dev nD) : (dat a b e g d).arrAt 3 cfg0.N = k0_pay1 (a d) (b d) (e d) :=
  (dat a b e g d).arrAt_eq_of_after_last 3 t0_0 (by decide +kernel) _ fun j => rfl

/-- The TensorCore owes nothing at the index its own waits use. -/
theorem Otc_none (d : Dev nD) (gs : GSem nD τ sig) : (K (F := F)).Otc d 0 gs none = 0 := by
  by_contra h
  have h' := SparseCore.Cfg.lev_of_Otc_pos (K := K (F := F)) (Nat.pos_of_ne_zero h)
  rw [SparseCore.Cfg.lev_none] at h'
  omega

/-- The core's dues, at a waits record below level zero. -/
abbrev Dues (d : Dev nD) : sProp 𝕄 := iprop(∃ W, ⌜(K (F := F)).WBelow (SparseCore.T d) W 0⌝ ∗ owes (SparseCore.T d) ((K (F := F)).Otc d 0) W)

/-- The four arrays of the call. -/
abbrev Four (d : Dev nD) (a : S8x16.Idx → Elt F .f32) (b : S16x8.Idx → Elt F .f32) (e : S1x8.Idx → Elt F .f32) (g : S8x8.Idx → Elt F .f32) : sProp 𝕄 :=
  iprop(((SparseCore.T d).loc main_arg1 ↦{fullShare} a) ∗ ((SparseCore.T d).loc main_v0 ↦{fullShare} b) ∗ ((SparseCore.T d).loc main_v1 ↦{fullShare} e)
    ∗ ((SparseCore.T d).loc main_v2 ↦{fullShare} g))

theorem dues_in (d : Dev nD) : Dues (F := F) d ⊢ ((dat a b e g d).owesAt none 0 : sProp 𝕄) := by
  unfold Pipeline.Dat.owesAt Pipeline.owesWithin
  iintro ⟨%W, %hW, HO⟩
  iexists W; isplitr
  · ipureintro; exact fun p hp => Or.inl (hW p hp)
  iexact HO

theorem dues_out (d : Dev nD) (t) : ((dat a b e g d).owesAt none t : sProp 𝕄) ⊢ Dues (F := F) d := by
  unfold Pipeline.Dat.owesAt Pipeline.owesWithin
  iintro ⟨%W, %hW, HO⟩
  iexists W; isplitr
  · ipureintro
    intro p hp
    rcases hW hp with h | h
    · exact h
    · obtain ⟨w, s, rfl⟩ := h
      exact le_of_eq (SparseCore.Cfg.lev_none _ _)
  iexact HO

theorem arrays_four (d : Dev nD) (H) :
    ((pdats a b e g 0 d).arrays H : sProp 𝕄) = Four d (H 0) (H 1) (H 2) (H 3) := by
  rw [Pipeline.arrays_eq (Pipeline.pin (pcfgs (F := F)) adm) (pdats a b e g) 0 d launch0.arr_whole ((pdats a b e g 0 d).share_full fun _ => rfl) H]
  exact bigSep_W0 _

set_option backward.isDefEq.respectTransparency.types false in
/-- The call over its four arrays and the core's dues. -/
def reg : Pipeline.RegionSeg (pcfgs (F := F)) adm (pdats a b e g) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation a b e g d).loose
  hwaits d := Pipeline.cellsWaits_intro _ _ _ _ _ fun w s t => (K (F := F)).mayWait_none _ (Otc_none d)
  pre d := iprop(Four d (a d) (b d) (e d) (g d) ∗ Dues (F := F) d)
  post d := iprop(Four d (a d) (b d) (e d) (k0_pay1 (a d) (b d) (e d)) ∗ Dues (F := F) d)
  X _ := BI.emp
  Y _ := BI.emp
  Z _ := BI.emp
  hentry d := by
    rw [Pipeline.ownSems0_none, arrays_four]
    iintro ⟨⟨HA, HO⟩, -, -⟩
    imodintro
    isplitl [HA]; · iexact HA
    isplitr; · unfold Pipeline.prefHeld; rw [show (Finset.univ : Finset (Fin 0)) = ∅ from rfl, BI.bigSep_empty]; iempintro
    isplitl [HO]
    · iapply (dues_in a b e g d); iexact HO
    isplitr <;> iempintro
  hin d := by
    rw [show (pdats a b e g 0 d).Φ 0 = BI.emp from rfl]
    iintro ⟨-, -, -⟩; iempintro
  hout d := by
    rw [Pipeline.ownSems0_none, show (pdats a b e g 0 d).Φ (Fin.last _) = BI.emp from rfl, show Pipeline.scopedRest _ d = BI.emp from scopedRest0_eq d]
    iintro -
    isplitr; · iempintro
    isplitr <;> iempintro
  hexit d := by
    rw [arrays_four]
    iintro ⟨HA, HO, -, -⟩
    imodintro
    isplitl [HA]
    · rw [show (pdats a b e g 0 d).arrAt 3 _ = k0_pay1 (a d) (b d) (e d) from arr_3 a b e g d,
        show (pdats a b e g 0 d).arrAt 0 _ = a d from (dat a b e g d).arrAt_in 0 rfl _,
        show (pdats a b e g 0 d).arrAt 1 _ = b d from (dat a b e g d).arrAt_in 1 rfl _,
        show (pdats a b e g 0 d).arrAt 2 _ = e d from (dat a b e g d).arrAt_in 2 rfl _]
      iexact HA
    iapply (dues_out a b e g d _); iexact HO

/-- The pipeline cells' ghosts of core `d`. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

theorem phinj : Function.Injective (cellOf (nD := nD) (τ := τ) (Pipeline.pin (pcfgs (F := F)) adm)) := cellOf_inj

/-- The host's call of the TensorCore kernel. -/
theorem wp_call [∀ e, Nonempty (Elt F e)] (d : Dev nD) (Q : PUnit → sProp 𝕄) :
    iprop(levAts (K (F := F)).L (K (F := F)).lev ∗ boundary (SparseCore.T d) ∗ Four d (a d) (b d) (e d) (g d) ∗ Dues (F := F) d ∗ Gh (F := F) d
        ∗ ((boundary (SparseCore.T d) ∗ Four d (a d) (b d) (e d) (k0_pay1 (a d) (b d) (e d)) ∗ Dues (F := F) d) -∗ Q ⟨⟩))
      ⊢ wp frame (wpE ((K (F := F)).defs D) 𝒱 (SparseCore.T d) none) Set.univ
          (Prog.lift (.customCall (SparseCore.inner (Pipeline.entry 0)) ()) : Prog (TpuEff nD τ sig (Elt F) _ .tc) PUnit) Q := by
  have hlift := (K (F := F)).wp_liftProg (Name := ℕ) (U := UU) D 𝒱 (SparseCore.T d) Set.univ none
    (Prog.op (TpuEff.customCall (Pipeline.entry 0) ()) Prog.ret : Prog (TpuEff nD τ sig (Elt F) (ΛP (F := F)) .tc) PUnit) Q
  refine BIBase.Entails.trans ?_ hlift
  refine BIBase.Entails.trans ?_ ((reg a b e g).wp (pcfgs (F := F)) adm (pdats a b e g) none phinj EP (defs₀ (F := F)) 𝒱₀ _ _ d none (by simp) .ret Q)
  rw [show (reg a b e g).pre d = iprop(Four d (a d) (b d) (e d) (g d) ∗ Dues (F := F) d) from rfl,
    show (reg a b e g).post d = iprop(Four d (a d) (b d) (e d) (k0_pay1 (a d) (b d) (e d)) ∗ Dues (F := F) d) from rfl]
  iintro ⟨HL, Hbd, HA, HO, ⟨HG, HT⟩, Hk⟩
  isplitl [Hk]
  · iintro ⟨Hbd, HA, HO⟩
    rw [wp_ret]
    imodintro
    iapply Hk
    isplitl [Hbd]; · iexact Hbd
    isplitl [HA] <;> iassumption
  isplitl [Hbd]; · iexact Hbd
  isplitl [HA HO]; · isplitl [HA] <;> iassumption
  isplitl [HL]; · iexact HL
  isplitl [HG] <;> iassumption

end region

end Cert.Proof.Lookup

end

end
-- ==== Proof.Main.lean ====
/-
  The whole program: its host operations, its two calls, and what every execution of it ends with.
-/
module

public import proofs.«01_k».proof.Proof.Launch
public import proofs.«01_k».proof.Proof.TcCall

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The location of a host array of device `d`. -/
abbrev hLoc (d : Dev nD) (b : Ref sig .tc) : Loc nD τ sig := (SparseCore.T d).loc b

/-! ## What the program computes -/

/-- The weights transposed, -/
def wT (d : Dev nD) : S16x8.Idx → Elt F .f32 := transpose S16x8 [1, 0] (m (hLoc d main_arg2)) transposes_S8x16_S16x8_1_0
/-- the bias as a row, -/
def bRow (d : Dev nD) : S1x8.Idx → Elt F .f32 := shapeCast S1x8 (m (hLoc d main_arg3)) shapeCasts_S8_S1x8
/-- the row of the embedding by the weights, with the bias: a row per token, a column per class, -/
def logits (d : Dev nD) : S8x8.Idx → Elt F .f32 := k0_pay1 (m (hLoc d main_arg1)) (wT m d) (bRow m d)
/-- the same with a row per class, -/
def logitsT (d : Dev nD) : S8x8.Idx → Elt F .f32 := transpose S8x8 [1, 0] (logits m d) transposes_S8x8_S8x8_1_0
/-- and flat: the table the SparseCores read; -/
def tbl (d : Dev nD) : S64.Idx → Elt F .f32 := shapeCast S64 (logitsT m d) shapeCasts_S8x8_S64
/-- the tokens with a row per position; -/
def toks (d : Dev nD) : S200x16384.Idx → BitVec 32 := transpose S200x16384 [1, 0] (m (hLoc d main_arg0)) transposes_S16384x200_S200x16384_1_0
/-- and the result. -/
def outv (d : Dev nD) : S16384x200x8.Idx → Elt F .f32 :=
  transpose S16384x200x8 [2, 0, 1] (GT (toks m d) (tbl m d)) transposes_S200x8x16384_S16384x200x8_2_0_1

/-- The output's contents before the program. -/
def out₀ (d : Dev nD) : S200x8x16384.Idx → Elt F .f32 := m (oLoc d)

/-- The SparseCore call's payload at this program's tokens, table and output. -/
abbrev Pm : (K (F := F)).Pay (nD := nD) (Val := Elt F) (Name := ℕ) (U := UU) := P (toks m) (tbl m) (out₀ m)

/-! ## One host operation -/

include m in
/-- An operation of one operand and one result, from the two arrays: the operand kept, the result at what the operation
    computes from it. -/
theorem wp_host (d : Dev nD) {op : HloOp τ sig (Elt F)} (x y : Ref sig .tc) (hb : op.bufs ⊆ {Proc.devRef .tc x, Proc.devRef .tc y})
    (hw : op.writes = {Proc.devRef .tc y}) (hne : (Proc.devRef .tc x : DevRef τ sig) ≠ Proc.devRef .tc y) (hf : op.fresh = ∅)
    (a : Buf (Elt F) (hLoc d x)) (g r : Buf (Elt F) (hLoc d y))
    (hr : ∀ W : Valuation τ sig (Elt F), W (Proc.devRef .tc x) = a → op.result W (Proc.devRef .tc y) = r) (Q : PUnit → sProp 𝕄) :
    iprop(boundary (SparseCore.T d) ∗ (hLoc d x ↦{fullShare} a) ∗ (hLoc d y ↦{fullShare} g)
        ∗ ((boundary (SparseCore.T d) ∗ (hLoc d x ↦{fullShare} a) ∗ (hLoc d y ↦{fullShare} r)) -∗ Q ⟨⟩))
      ⊢ wp frame (wpE ((K (F := F)).defs D) 𝒱 (SparseCore.T d) none) Set.univ
          (hlo rfl op (fun _ => .ret ⟨⟩) : Prog (TpuEff nD τ sig (Elt F) _ .tc) PUnit) Q := by
  let W : Valuation τ sig (Elt F) := Function.update (Function.update (fun b => m (d, b)) (Proc.devRef .tc x) a) (Proc.devRef .tc y) g
  have hWx : W (Proc.devRef .tc x) = a := (Function.update_of_ne hne _ _).trans (Function.update_self _ _ _)
  have hWy : W (Proc.devRef .tc y) = g := Function.update_self _ _ _
  have hh : ∀ W : Valuation τ sig (Elt F), (held (SparseCore.T d) {Proc.devRef .tc x, Proc.devRef .tc y} W : sProp 𝕄)
      = iprop((hLoc d x ↦{fullShare} W (Proc.devRef .tc x)) ∗ (hLoc d y ↦{fullShare} W (Proc.devRef .tc y))) := fun W => by
    unfold held
    rw [SparseCore.bigSep_insert' (by rw [Finset.mem_singleton]; exact hne), bigSep_singleton]
  iintro ⟨Hb, Hx, Hy, Hk⟩
  iapply (wp_hlo_within 𝒱 (SparseCore.T d) none Set.univ (op := op) (S := {Proc.devRef .tc x, Proc.devRef .tc y}) hb (V := W) hf) $$ [Hb Hx Hy]
  · isplitl [Hb]; · iexact Hb
    rw [hh, hWx, hWy]
    isplitl [Hx] <;> iassumption
  rw [hh, hr W hWx, op.result_of_not_mem W (by rw [hw, Finset.mem_singleton]; exact hne), hWx]
  iintro ⟨Hb, Hx, Hy⟩
  rw [wp_ret]
  imodintro
  iapply Hk
  isplitl [Hb]; · iexact Hb
  isplitl [Hx] <;> iassumption

/-! ## The launch element of the ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem Px_all (thr : Thread nD τ) : (bigSep Finset.univ fun q : Fin 1 => (Pm m).x q thr) = (iprop(emp) : sProp 𝕄) :=
  BI.bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (Pm m).x q thr) := by
  unfold u₀
  iintro Hu
  ihave H := (ownU_split _ _) $$ Hu
  icases H with ⟨HH, HK⟩
  imod (Pipeline.fund_ghost (Pipeline.pin (pcfgs (F := F)) adm) EP phinj) $$ HK with ⟨Hc, Ht⟩
  imodintro
  isplitl [HH]; · iexact HH
  isplitl [Hc Ht]
  · rw [bigSep_sep']
    have one : ∀ Φ : Dev nD → Fin 1 → sProp 𝕄, (bigSep Finset.univ fun d => bigSep Finset.univ fun p => Φ d p) = bigSep Finset.univ fun d => Φ d 0 :=
      fun Φ => bigSep_congr fun d _ => BI.bigSep_univ_of_subsingleton (0 : Fin 1)
    isplitl [Hc]
    · iapply (Entails.of_eq (one fun d p => Pipeline.cellsGhost (Pipeline.pin (pcfgs (F := F)) adm) EP p d)); iexact Hc
    · iapply (Entails.of_eq (one fun d p => Pipeline.toksInit (Pipeline.pin (pcfgs (F := F)) adm) EP p d)); iexact Ht
  · simp only [Px_all]
    iapply (Entails.of_eq (bigSep_emp_const (Finset.univ : Finset (Thread nD τ))).symm); iempintro

/-! ## @main on the TensorCore -/

theorem unscopedBufs_eq (d : Dev nD) (W : (b : Ref sig .tc) → Buf (Elt F) ((d.tc : Thread nD τ).loc b)) :
    (unscopedBufs d W : sProp 𝕄) = iprop((hLoc d main_arg0 ↦{fullShare} W main_arg0) ∗ (hLoc d main_arg1 ↦{fullShare} W main_arg1)
      ∗ (hLoc d main_arg2 ↦{fullShare} W main_arg2) ∗ (hLoc d main_arg3 ↦{fullShare} W main_arg3)
      ∗ (hLoc d main_v0 ↦{fullShare} W main_v0) ∗ (hLoc d main_v1 ↦{fullShare} W main_v1) ∗ (hLoc d main_v2 ↦{fullShare} W main_v2)
      ∗ (hLoc d main_v3 ↦{fullShare} W main_v3) ∗ (hLoc d main_v4 ↦{fullShare} W main_v4) ∗ (hLoc d main_v5 ↦{fullShare} W main_v5)
      ∗ (hLoc d main_v6 ↦{fullShare} W main_v6) ∗ (hLoc d main_v7 ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (Pm m).st 0 d c)
    = (iprop(xPts (toks m) d fullShare ∗ tPts (tbl m) d fullShare ∗ oPts d Finset.univ (out₀ m d)) : sProp 𝕄) := by
  rw [call_deal]
  exact bigSep_cores fun c => iprop(xPts (toks m) d (qC c) ∗ tPts (tbl m) d (qC c) ∗ oPts d (coreSet c) (out₀ m d))
theorem dn0_eq (d : Dev nD) : (bigSep Finset.univ fun c : Fin ((K (F := F)).nCore 0) => (Pm m).dn 0 d c)
    = (iprop(xPts (toks m) d fullShare ∗ tPts (tbl m) d fullShare ∗ oPts d Finset.univ (GT (toks m d) (tbl m d))) : sProp 𝕄) := by
  rw [call_deal]
  exact bigSep_cores fun c => iprop(xPts (toks m) d (qC c) ∗ tPts (tbl m) d (qC c) ∗ oPts d (coreSet c) (GT (toks m d) (tbl m d)))

/-- What the program ends with: its arguments as they were, and its result. -/
abbrev FIN (d : Dev nD) : sProp 𝕄 :=
  iprop((hLoc d main_arg0 ↦{fullShare} m (hLoc d main_arg0)) ∗ (hLoc d main_arg1 ↦{fullShare} m (hLoc d main_arg1))
    ∗ (hLoc d main_arg2 ↦{fullShare} m (hLoc d main_arg2)) ∗ (hLoc d main_arg3 ↦{fullShare} m (hLoc d main_arg3))
    ∗ (hLoc d main_v7 ↦{fullShare} (outv m d : Buf (Elt F) (hLoc d main_v7))))

/-- The TensorCore's state before the first SparseCore call gives its dues and takes them back. -/
theorem tcSt_dues (d : Dev nD) : ((K (F := F)).tcSt EH d 0 : sProp 𝕄) ⊢ iprop(Dues (F := F) d ∗ (Dues (F := F) d -∗ (K (F := F)).tcSt EH d 0)) := by
  unfold SparseCore.Cfg.tcSt
  iintro ⟨H, Hr⟩
  isplitl [H]; · iexact H
  iintro H
  isplitl [H]; · iexact H
  iexact Hr

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, W0, W1, W2, W3, W4, W5, W6, W7⟩, Hts, -⟩, HG⟩
  ihave Hst' := (tcSt_dues d) $$ Hst
  icases Hst' with ⟨Hdue, Hst⟩
  iapply (wp_host m d main_arg2 main_v0 (Finset.Subset.refl _) rfl (by decide) rfl (m (hLoc d main_arg2)) (m (hLoc d main_v0)) (wT m d) (fun W h => by
    rw [StableHlo.unary_result, h]; rfl) _)
  isplitl [Hb]; · iexact Hb
  isplitl [H2]; · iexact H2
  isplitl [W0]; · iexact W0
  iintro ⟨Hb, H2, W0⟩
  iapply (wp_host m d main_arg3 main_v1 (Finset.Subset.refl _) rfl (by decide) rfl (m (hLoc d main_arg3)) (m (hLoc d main_v1)) (bRow m d) (fun W h => by
    rw [StableHlo.reshape_result, h]; rfl) _)
  isplitl [Hb]; · iexact Hb
  isplitl [H3]; · iexact H3
  isplitl [W1]; · iexact W1
  iintro ⟨Hb, H3, W1⟩
  iapply (wp_call (fun d => m (hLoc d main_arg1)) (wT m) (bRow m) (fun d => m (hLoc d main_v2)) d _)
  isplitr; · iapply (SparseCore.Cfg.ctx_levAts κ); iexact Hctx
  isplitl [Hb]; · iexact Hb
  isplitl [H1 W0 W1 W2]
  · isplitl [H1]; · iexact H1
    isplitl [W0]; · iexact W0
    isplitl [W1]; · iexact W1
    iexact W2
  isplitl [Hdue]; · iexact Hdue
  isplitl [HG]; · iexact HG
  iintro ⟨Hb, ⟨H1, W0, W1, W2⟩, Hdue⟩
  iapply (wp_host m d main_v2 main_v3 (Finset.Subset.refl _) rfl (by decide) rfl (logits m d) (m (hLoc d main_v3)) (logitsT m d) (fun W h => by
    rw [StableHlo.unary_result, h]; rfl) _)
  isplitl [Hb]; · iexact Hb
  isplitl [W2]; · iexact W2
  isplitl [W3]; · iexact W3
  iintro ⟨Hb, W2, W3⟩
  iapply (wp_host m d main_v3 main_v4 (Finset.Subset.refl _) rfl (by decide) rfl (logitsT m d) (m (hLoc d main_v4)) (tbl m d) (fun W h => by
    rw [StableHlo.reshape_result, h]; rfl) _)
  isplitl [Hb]; · iexact Hb
  isplitl [W3]; · iexact W3
  isplitl [W4]; · iexact W4
  iintro ⟨Hb, W3, W4⟩
  iapply (wp_host m d main_arg0 main_v5 (Finset.Subset.refl _) rfl (by decide) rfl (m (hLoc d main_arg0)) (m (hLoc d main_v5)) (toks m d) (fun W h => by
    rw [StableHlo.unary_result, h]; rfl) _)
  isplitl [Hb]; · iexact Hb
  isplitl [H0]; · iexact H0
  isplitl [W5]; · iexact W5
  iintro ⟨Hb, H0, W5⟩
  iapply ((K (F := F)).wp_run (D (F := F)) 𝒱 (EH := EH) (P := Pm m) κ d 0) $$ [Hdue Hst Hb Hts H0 H1 H2 H3 W4 W5 W6 W7]
  isplitr; · iexact Hctx
  isplitl [Hdue Hst]
  · iapply Hst; iexact Hdue
  isplitl [W4 W5 W6]
  · rw [st0_eq]
    isplitl [W5]; · iexact W5
    isplitl [W4]; · iexact W4
    iexact W6
  iintro ⟨Hst, Hdn⟩
  ihave Hdn' := (Entails.of_eq (dn0_eq m d)) $$ Hdn
  icases Hdn' with ⟨-, -, W6⟩
  iapply (wp_host m d main_v6 main_v7 (Finset.Subset.refl _) rfl (by decide) rfl (GT (toks m d) (tbl m d)) (m (hLoc d main_v7)) (outv m d) (fun W h => by
    rw [StableHlo.unary_result, h]; rfl) _)
  isplitl [Hb]; · iexact Hb
  isplitl [W6]; · iexact W6
  isplitl [W7]; · iexact W7
  iintro ⟨Hb, -, W7⟩
  imodintro
  isplitl [Hst]; · iexact Hst
  isplitr [Hb Hts]
  · isplitl [H0]; · iexact H0
    isplitl [H1]; · iexact H1
    isplitl [H2]; · iexact H2
    isplitl [H3]; · iexact H3
    iexact W7
  isplitl [Hb] <;> iassumption

/-! ## Every execution -/

/-- What the final memory of device `d` is. -/
def fq (d : Dev nD) (s' : Phys nD τ sig (Elt F)) : Prop :=
  (s'.mem.mem (hLoc d main_arg0) = m (hLoc d main_arg0) ∧ s'.mem.mem (hLoc d main_arg1) = m (hLoc d main_arg1)
    ∧ s'.mem.mem (hLoc d main_arg2) = m (hLoc d main_arg2) ∧ s'.mem.mem (hLoc d main_arg3) = m (hLoc d main_arg3))
  ∧ s'.mem.mem (hLoc d main_v7) = outv m d

/-- A whole array held beside the state is what the state's memory has there. -/
theorem mem_of_held (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H7⟩, HSI⟩
  ihave H := (mem_of_held s' _ _) $$ [HSI H0]
  · isplitl [HSI] <;> iassumption
  icases H with ⟨%h0, HSI⟩
  ihave H := (mem_of_held s' _ _) $$ [HSI H1]
  · isplitl [HSI] <;> iassumption
  icases H with ⟨%h1, HSI⟩
  ihave H := (mem_of_held s' _ _) $$ [HSI H2]
  · isplitl [HSI] <;> iassumption
  icases H with ⟨%h2, HSI⟩
  ihave H := (mem_of_held s' _ _) $$ [HSI H3]
  · isplitl [HSI] <;> iassumption
  icases H with ⟨%h3, HSI⟩
  ihave H := (mem_of_held s' _ _) $$ [HSI H7]
  · isplitl [HSI] <;> iassumption
  icases H with ⟨%h7, -⟩
  ipureintro; exact ⟨⟨h0, h1, h2, h3⟩, h7⟩

/-- Where every execution ends: on every device the arguments as they were and the result computed, every counter zero. -/
def QC : PUnit × MemSt nD τ sig (Elt F) → Prop := fun r =>
  (∀ d : Dev nD, (r.2.mem (hLoc d main_arg0) = m (hLoc d main_arg0) ∧ r.2.mem (hLoc d main_arg1) = m (hLoc d main_arg1)
    ∧ r.2.mem (hLoc d main_arg2) = m (hLoc d main_arg2) ∧ r.2.mem (hLoc d main_arg3) = m (hLoc d main_arg3))
    ∧ r.2.mem (hLoc d main_v7) = outv m d) ∧ r.2.sem = fun _ => 0

/-- Every execution from a memory whose tokens are all below eight ends there. -/
theorem run_main [∀ e, Nonempty (Elt F e)] (hX : ∀ d p, (toks m d p).toNat < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (toks m) (tbl m) (out₀ m) hX facts)
    (fun q _ => match q with | 0 => SparseCore.Cfg.VecSplit.of_plain (vecSplit (toks m) (tbl m) (out₀ m)))
    m ρ main (fun d => Gh (F := F) d) (FIN m) (u₀ (F := F)) (sep_elim_left.trans (hu₀ m)) (hmain m ρ) (fq m) (hfin m) (QC m) (fun _ h hz => ⟨h, hz⟩)

end Cert.Proof.Lookup

end

end
-- ==== Proof.Frames.lean ====
/-
  The frames: each program ends, its arguments hold what they held, and every counter reads zero.
-/
module

public import proofs.«01_k».proof.Defs
public import proofs.«01_k».proof.Proof.Gen.Kernel
public import proofs.«01_k».proof.Proof.Gen.ReferenceIdeal.Run
public import proofs.«01_k».proof.Proof.Range
public import proofs.«01_k».proof.Proof.Main
public import Idealize.ShloMosaic.Lib.Quiescent

@[expose] public section

noncomputable section

namespace Cert.Proof.Lookup

open Idealize.ShloMosaic Idealize.SL.Sem

variable {F : FTy → Type} [FloatOps F]

/-- The precondition bounds the tokens as the SparseCore reads them, transposed. -/
theorem toks_lt (m : (ℓ : Loc Cert.KernelIdeal.nD Cert.KernelIdeal.τ Cert.KernelIdeal.sig) → Buf (Elt F) ℓ)
    (h : ∀ d : Dev Cert.KernelIdeal.nD, Cert.Pre_in_range.fn (F := F) (m (hLoc d Cert.KernelIdeal.main_arg0)) (m (hLoc d Cert.KernelIdeal.main_arg1))
      (m (hLoc d Cert.KernelIdeal.main_arg2)) (m (hLoc d Cert.KernelIdeal.main_arg3)) = fun _ => 1#1)
    (d : Dev Cert.KernelIdeal.nD) (p : Cert.KernelIdeal.S200x16384.Idx) : (toks m d p).toNat < 8 :=
  token_lt _ _ _ _ (h d) _

/-- The two programs' texts are one: their tables of bodies agree, processor by processor and label by label. -/
theorem bodies_eq : Cert.Kernel.defs₀ (F := F) = Cert.KernelIdeal.defs₀ (F := F) := by
  funext c l a
  rcases c with _ | _ | _ <;>
    match l, a with
    | 0, (_, _) => rfl
    | 1, _ => rfl

theorem defs_eq : Cert.Kernel.defs (F := F) = Cert.KernelIdeal.defs (F := F) :=
  congrArg (fun D => Cert.KernelIdeal.sc.defs (Pipeline.defs Cert.KernelIdeal.pcfgs D)) bodies_eq

/-- What every execution of the program leaves, for any float values: its arguments as they were, and every counter at zero. -/
theorem frame_any (m : (ℓ : Loc Cert.KernelIdeal.nD Cert.KernelIdeal.τ Cert.KernelIdeal.sig) → Buf (Elt F) ℓ) (ρ : Dev Cert.KernelIdeal.nD → PrngReg)
    [∀ e, Nonempty (Elt F e)]
    (h : ∀ d : Dev Cert.KernelIdeal.nD, Cert.Pre_in_range.fn (F := F) (m (hLoc d Cert.KernelIdeal.main_arg0)) (m (hLoc d Cert.KernelIdeal.main_arg1))
      (m (hLoc d Cert.KernelIdeal.main_arg2)) (m (hLoc d Cert.KernelIdeal.main_arg3)) = fun _ => 1#1) :
    θ_run (Cert.KernelIdeal.defs (F := F)) (Cert.KernelIdeal.threads (F := F)) ⟨m, fun _ => 0, ρ⟩ (fun r =>
      (∀ d : Dev Cert.KernelIdeal.nD, r.2.mem (hLoc d Cert.KernelIdeal.main_arg0) = m (hLoc d Cert.KernelIdeal.main_arg0)
        ∧ r.2.mem (hLoc d Cert.KernelIdeal.main_arg1) = m (hLoc d Cert.KernelIdeal.main_arg1)
        ∧ r.2.mem (hLoc d Cert.KernelIdeal.main_arg2) = m (hLoc d Cert.KernelIdeal.main_arg2)
        ∧ r.2.mem (hLoc d Cert.KernelIdeal.main_arg3) = m (hLoc d Cert.KernelIdeal.main_arg3))
      ∧ r.2.sem = fun _ => 0) :=
  (θ_run Cert.KernelIdeal.defs _ _).mono (fun _ q => ⟨fun d => (q.1 d).1, q.2⟩) (run_main m ρ (toks_lt m h))

/-- The kernel's frame over machine words. Its text is the idealized program's, so the run is the one proved for any float values. -/
theorem frame_kernel : Cert.quiescent_Kernel := fun m ρ hp =>
  (congrArg (fun D => θ_run D (Cert.KernelIdeal.threads (F := Bits)) ⟨m, fun _ => 0, ρ⟩ _) (defs_eq (F := Bits))).mpr
    (frame_any (F := Bits) m ρ hp)

/-- The idealized kernel's frame. -/
theorem frame_ideal : Cert.quiescent_KernelIdeal := fun m ρ hp => frame_any (F := Ideal) m ρ hp

/-- The reference's frame: it writes none of its arguments, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Lookup

end

end
-- ==== Proof.Logits.lean ====
/-
  The kernel's result over the reals, element by element: an embedding row's products with a weight row, summed, and the bias.
-/
module

public import proofs.«01_k».proof.Proof.Main
public import Idealize.ShloMosaic.Lib.Pointwise

@[expose] public section

noncomputable section

namespace Cert.Proof.Lookup

open Cert.KernelIdeal Cert.KernelIdeal.Gen
open Idealize.ShloMosaic

/-- The logit of class `v` for a token `x`. -/
def logit (E W : FVec Ideal S8x16 .f32) (b : FVec Ideal S8 .f32) (x v : Fin 8) : Ideal .f32 :=
  (∑ k : Fin 16, E (ix2 x k) * W (ix2 v k)) + b (ix1 v)

/-- The TensorCore's product with the bias holds the logits, a row per token and a column per class. -/
theorem product_at (E W : FVec Ideal S8x16 .f32) (b : FVec Ideal S8 .f32) (x v : Fin 8) :
    k0_pay1 E (transpose S16x8 [1, 0] W transposes_S8x16_S16x8_1_0) (shapeCast S1x8 b shapeCasts_S8_S1x8) (ix2 x v) = logit E W b x v := by
  unfold k0_pay1 logit
  pointwise

variable {F : FTy → Type} [FloatOps F]
variable (m : (ℓ : Loc nD τ sig) → Buf (Elt F) ℓ)

/-- The flat table's element for token `x` and class `v` is the product's at row `x`, column `v`. -/
theorem tbl_at (d : Dev nD) (x v : Fin 8) (h : x.val + 8 * v.val < 64) : tbl m d (at1 ⟨x.val + 8 * v.val, h⟩) = logits m d (ix2 x v) := by
  unfold tbl shapeCast
  refine (congrArg (logitsT m d) (Shape.reshapeEquiv_eq_of_rowMajor _ (y := ix2 v x) ?_)).trans ?_
  · rw [Shape.rowMajor_val_one, Shape.rowMajor_val_two]
    show v.val * 8 + x.val = x.val + 8 * v.val
    omega
  · exact congrArg (logits m d) (funext fun | 0 => rfl | 1 => rfl)

/-- The output at sequence `y 0`, position `y 1` and class `y 2`: the product's row of the token there, its column of the class. -/
theorem outv_at (d : Dev nD) (y : S16384x200x8.Idx) (hx : (m (hLoc d main_arg0) (ix2 (y 0) (y 1)) : BitVec 32).toNat < 8) :
    outv m d y = logits m d (ix2 ⟨_, hx⟩ (y 2)) := by
  have hv : (y 2).val < 8 := (y 2).isLt
  have e : outv m d y = pick (tbl m d) (m (hLoc d main_arg0) (ix2 (y 0) (y 1)) : BitVec 32) (y 2).val := by
    refine (congrArg (GT (toks m d) (tbl m d)) (?_ : _ = at3 (y 1) (y 2) (y 0))).trans ?_
    · exact funext fun | 0 => rfl | 1 => rfl | 2 => rfl
    · refine congrArg (fun z => pick (tbl m d) z (y 2).val) (congrArg (m (hLoc d main_arg0)) ?_)
      exact funext fun | 0 => rfl | 1 => rfl
  rw [e, ← tbl_at m d ⟨_, hx⟩ (y 2) (by show _ + _ < _; simp only; omega)]
  unfold pick
  refine congrArg (fun z => tbl m d (at1 z)) (Fin.ext ?_)
  exact Nat.mod_eq_of_lt (by omega)

end Cert.Proof.Lookup

end

end
-- ==== Proof.Reference.lean ====
/-
  The reference's result over the reals, element by element, for tokens in range: the same sum of products, with the bias.
-/
module

public import proofs.«01_k».proof.Proof.Gen.ReferenceIdeal.Run
public import Idealize.ShloMosaic.Lib.ReduceAll
public import Idealize.ShloMosaic.Lib.Affine
public import Idealize.ShloMosaic.Lib.Pointwise

@[expose] public section

noncomputable section

namespace Cert.Proof.Lookup.Ref

open Cert.ReferenceIdeal Cert.ReferenceIdeal.Gen
open Idealize.ShloMosaic Idealize.ShloMosaic.TcCoe Idealize.SL.Sem

variable {F : FTy → Type} [FloatOps F]

/-- The index words the reference looks up with: eight is added to a negative token. -/
def words (X : IVec S16384x200 32) : IVec S16384x200 32 :=
  select (cmpi .slt X (broadcastInDim S16384x200 ![] bcast_S_S16384x200 (constantI S_ 32 0#32)))
    (addi X (broadcastInDim S16384x200 ![] bcast_S_S16384x200 (constantI S_ 32 8#32))) X

/-- The same words as start indices of the lookup. -/
def starts (X : IVec S16384x200 32) : IVec S16384x200x1 32 :=
  broadcastInDim S16384x200x1 ![0, 1] bcast_S16384x200_S16384x200x1_0_1 (words X)

/-- Which start indices name a row. -/
def valid (X : IVec S16384x200 32) : IVec S16384x200x1 1 :=
  andi (cmpi .sge (starts X) (broadcastInDim S16384x200x1 ![] bcast_S_S16384x200x1 (constantI S_ 32 0#32)))
    (cmpi .sle (starts X) (broadcastInDim S16384x200x1 ![0, 1, 2] bcast_S1x1x1_S16384x200x1_0_1_2
      (broadcastInDim S1x1x1 ![2] bcast_S1_S1x1x1_2 (constantI S1 32 7#32))))

/-- The rows looked up. -/
def taken (X : IVec S16384x200 32) (E : FVec F S8x16 .f32) : FVec F S16384x200x16 .f32 :=
  select (broadcastInDim S16384x200x16 ![0, 1] bcast_S16384x200_S16384x200x16_0_1
      (Host.reduce IntOp.andi (valid X) (constantI S_ 1 1#1) reducesTo_S16384x200x1_S16384x200_d2 h_S_))
    (Host.gather gather_S8x16_S16384x200x1_S16384x200x16_2_0_n_n_0_2_116 E (starts X))
    (broadcastInDim S16384x200x16 ![] bcast_S_S16384x200x16 (constant S_ .f32 0x7FC00000#32))

/-- The reference's result. -/
def result (X : IVec S16384x200 32) (E W : FVec F S8x16 .f32) (b : FVec F S8 .f32) : FVec F S16384x200x8 .f32 :=
  addf (Host.dotGeneral dot_S16384x200x16_S8x16_S16384x200x8_2_1_01_0_n_n none (taken X E) W)
    (broadcastInDim S16384x200x8 ![0, 1, 2] bcast_S1x1x8_S16384x200x8_0_1_2 (broadcastInDim S1x1x8 ![2] bcast_S8_S1x1x8_2 b))

/-- A selection is its first operand where the mask is set. -/
theorem select_set {α : Type} {s : Shape} (c : IVec s 1) (a b : s.Idx → α) (i : s.Idx) (h : c i = 1#1) : select c a b i = a i := if_pos h

/-- The lookup's dimension numbers. -/
abbrev dims : GatherDims S8x16 S16384x200x1 S16384x200x16 := gather_S8x16_S16384x200x1_S16384x200x16_2_0_n_n_0_2_116

/-- The lookup at row `p`, column `q` and lane `k`: the table's row that the start index names, its lane `k`. -/
theorem gather_at {α : Type} (E : S8x16.Idx → α) (s : IVec S16384x200x1 32) (p : Fin 16384) (q : Fin 200) (k : Fin 16) (x : Fin 8)
    (h : (s (ix3 p q 0)).toInt.toNat = x.val) :
    Host.gather dims E s (ix3 p q k) = E (ix2 x k) := by
  unfold Host.gather
  refine congrArg E (funext fun a => Fin.ext ?_)
  match a with
  | ⟨0, _⟩ =>
    show dims.start (ix3 p q k) s 0 + dims.batchCoord (ix3 p q k) 0 + dims.offCoord (ix3 p q k) 0 = x.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ dims.startIndexMap from List.mem_singleton.mpr rfl)]
    have e : GatherDims.siIdx dims (ix3 p q k)
        ⟨List.idxOf (0 : Fin 2) [0], List.idxOf_lt_length_iff.2 (List.mem_singleton.mpr rfl)⟩ = ix3 p q 0 :=
      funext fun b => Fin.ext (match b with | ⟨0, _⟩ => rfl | ⟨1, _⟩ => rfl | ⟨2, _⟩ => rfl)
    refine (congrArg (fun j => min (s j).toInt.toNat 7) e).trans ?_
    show min (s (ix3 p q 0)).toInt.toNat 7 = x.val
    rw [h]
    omega
  | ⟨1, _⟩ =>
    show dims.start (ix3 p q k) s 1 + dims.batchCoord (ix3 p q k) 1 + dims.offCoord (ix3 p q k) 1 = k.val
    rw [GatherDims.batchCoord_eq_zero _ _ _ List.not_mem_nil]
    unfold GatherDims.start
    rw [dif_neg (by decide)]
    unfold GatherDims.offCoord
    rw [dif_pos (by decide)]
    simp only [Nat.zero_add]
    exact congrArg (fun a : Fin 3 => (ix3 p q k a).val) (by decide : dims.offsetDims[dims.sKept.idxOf 1]'(by decide) = (2 : Fin 3))

/-- Every execution of the reference ends with that result, its arguments as they were. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold result taken valid starts words
  exact Value.run m ρ

section InRange

variable {X : IVec S16384x200 32} (hX : ∀ i, (X i).toNat < 8)
include hX

theorem signed (i : S16384x200.Idx) : (X i).toInt = (X i).toNat := by
  have := hX i
  exact BitVec.toInt_eq_toNat_of_lt (by omega)

/-- A token in range is its own index word. -/
theorem words_eq : words X = X := funext fun i => by
  have h : ¬ IntOp.cmpi .slt (X i) 0#32 = 1#1 := fun h => by
    have := IntOp.cmpi_slt.1 h
    rw [signed hX i, show (0#32 : BitVec 32).toInt = 0 from rfl] at this
    omega
  show Scalar.select (IntOp.cmpi .slt (X i) 0#32) _ _ = X i
  unfold Scalar.select
  exact if_neg h

theorem starts_at (i : S16384x200x1.Idx) : starts X i = X (ix2 (i 0) (i 1)) := by
  unfold starts
  rw [words_eq hX]
  exact congrArg X (funext fun | 0 => rfl | 1 => rfl)

/-- Every start index names a row, -/
theorem valid_at (i : S16384x200x1.Idx) : valid X i = 1#1 := by
  show IntOp.andi (IntOp.cmpi .sge (starts X i) 0#32) (IntOp.cmpi .sle (starts X i) 7#32) = 1#1
  have := hX (ix2 (i 0) (i 1))
  refine IntOp.andi_eq_one.2 ⟨IntOp.cmpi_sge.2 ?_, IntOp.cmpi_sle.2 ?_⟩ <;> rw [starts_at hX, signed hX]
  · exact Int.natCast_nonneg _
  · rw [show (7#32 : BitVec 32).toInt = 7 from rfl]; omega

/-- so the row is the embedding's row of the token. -/
theorem taken_at (E : FVec F S8x16 .f32) (p : Fin 16384) (q : Fin 200) (k : Fin 16) :
    taken X E (ix3 p q k) = E (ix2 ⟨_, hX (ix2 p q)⟩ k) := by
  have hr (j : S16384x200.Idx) : Host.reduce IntOp.andi (valid X) (constantI S_ 1 1#1) reducesTo_S16384x200x1_S16384x200_d2 h_S_ j = 1#1 :=
    Host.reduce_andi_one _ _ _ _ j rfl (valid_at hX)
  have hm : broadcastInDim S16384x200x16 ![0, 1] bcast_S16384x200_S16384x200x16_0_1
      (Host.reduce IntOp.andi (valid X) (constantI S_ 1 1#1) reducesTo_S16384x200x1_S16384x200_d2 h_S_) (ix3 p q k) = 1#1 := by
    unfold broadcastInDim
    exact hr _
  unfold taken
  refine (select_set _ _ _ _ hm).trans (gather_at E _ p q k ⟨_, hX (ix2 p q)⟩ ?_)
  rw [starts_at hX, signed hX]
  exact Int.toNat_natCast _

end InRange

/-- Over the reals the product with the bias is, at each element, the row's products with the weight row, summed, and the bias. -/
theorem product_at (R : FVec Ideal S16384x200x16 .f32) (W : FVec Ideal S8x16 .f32) (b : FVec Ideal S8 .f32) (p : Fin 16384) (q : Fin 200) (v : Fin 8) :
    addf (Host.dotGeneral dot_S16384x200x16_S8x16_S16384x200x8_2_1_01_0_n_n none R W)
        (broadcastInDim S16384x200x8 ![0, 1, 2] bcast_S1x1x8_S16384x200x8_0_1_2 (broadcastInDim S1x1x8 ![2] bcast_S8_S1x1x8_2 b)) (ix3 p q v)
      = (∑ k : Fin 16, R (ix3 p q k) * W (ix2 v k)) + b (ix1 v) := by
  pointwise

/-- The reference's result over the reals, for tokens in range. -/
theorem result_at {X : IVec S16384x200 32} (hX : ∀ i, (X i).toNat < 8) (E W : FVec Ideal S8x16 .f32) (b : FVec Ideal S8 .f32)
    (p : Fin 16384) (q : Fin 200) (v : Fin 8) :
    result X E W b (ix3 p q v) = (∑ k : Fin 16, E (ix2 ⟨_, hX (ix2 p q)⟩ k) * W (ix2 v k)) + b (ix1 v) := by
  refine (product_at (taken X E) W b p q v).trans ?_
  simp only [taken_at hX]

end Cert.Proof.Lookup.Ref

end

end
-- ==== Proof.Equal.lean ====
/-
  Over the reals the kernel and the reference, run from the same arguments with tokens in range, end with the same result.
-/
module

public import proofs.«01_k».proof.Defs
public import proofs.«01_k».proof.Proof.Frames
public import proofs.«01_k».proof.Proof.Logits
public import proofs.«01_k».proof.Proof.Reference

@[expose] public section

noncomputable section

namespace Cert.Proof.Lookup

open Idealize.ShloMosaic Idealize.SL.Sem

/-- The kernel's value is the reference's. -/
theorem outv_eq (m : (ℓ : Loc Cert.KernelIdeal.nD Cert.KernelIdeal.τ Cert.KernelIdeal.sig) → Buf (Elt Ideal) ℓ) (d : Dev Cert.KernelIdeal.nD)
    (hX : ∀ i : Cert.KernelIdeal.S16384x200.Idx, (m (hLoc d Cert.KernelIdeal.main_arg0) i : BitVec 32).toNat < 8) :
    outv m d = Ref.result (F := Ideal) (m (hLoc d Cert.KernelIdeal.main_arg0)) (m (hLoc d Cert.KernelIdeal.main_arg1))
      (m (hLoc d Cert.KernelIdeal.main_arg2)) (m (hLoc d Cert.KernelIdeal.main_arg3)) := by
  funext y
  refine (outv_at m d y (hX _)).trans ?_
  refine (product_at _ _ _ ⟨_, hX _⟩ (y 2)).trans ?_
  refine (Ref.result_at hX _ _ _ (y 0) (y 1) (y 2)).symm.trans ?_
  exact congrArg _ (funext fun | 0 => rfl | 1 => rfl | 2 => rfl)

/-- The two programs agree. -/
theorem agree : Cert.algebraic_KernelIdeal_ReferenceIdeal := fun m ρ m' ρ' hp ha => by
  refine ⟨fun d => outv m d,
    (θ_run Cert.KernelIdeal.defs _ _).mono (fun _ h d => ⟨(h.1 d).2, (h.1 d).1⟩) (run_main (F := Ideal) m ρ (toks_lt (F := Ideal) m hp)),
    (θ_run Cert.ReferenceIdeal.defs _ _).mono (fun _ h d => ⟨(h d).1.trans ?_, (h d).2⟩) (Ref.run_result (F := Ideal) m' ρ')⟩
  obtain ⟨h0, h1, h2, h3⟩ := ha d
  rw [h0, h1, h2, h3]
  exact (outv_eq m d (token_lt _ _ _ _ (hp d))).symm

end Cert.Proof.Lookup

end

end
-- ==== Proof.lean ====
/-
  The certificate: the embedding lookup fused with its classifier, on the SparseCores.

  One TensorCore call makes the table of logits, a row of the embedding by the weights with the bias, for each token and class;
  thirty-two vector subcores then look the table up for every token. The modules, in order:
  * Base, Value, Trip, Steps, Body: one subcore's program, its copies in flight and its loops;
  * Launch: the SparseCore call; TcCall: the TensorCore call; Main: the whole program, for any float values;
  * Range: what the precondition says of a token; Frames: the frames;
  * Logits: the kernel's result over the reals; Reference: the reference's; Equal: their equation.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem

/-- The claims: the three frames, nothing rewritten between the two readings of the kernel, and the equation over the reals. -/
theorem claim : Cert.Claim :=
  ⟨Cert.Kernel.Gen.facts, Cert.KernelIdeal.Gen.facts, Cert.ReferenceIdeal.Gen.facts, Cert.Pre_in_range.Gen.facts,
    Lookup.frame_kernel, Lookup.frame_ideal, Lookup.frame_reference, trivial, Lookup.agree⟩

end Cert.Proof

end
